-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : IVec S4096x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S32x16 : Shape := ⟨2, ![32, 16]⟩
abbrev S2x4x4096 : Shape := ⟨3, ![2, 4, 4096]⟩
abbrev S16 : Shape := ⟨1, ![16]⟩
abbrev S_ : Shape := ⟨0, ![]⟩
abbrev S1x4x4096 : Shape := ⟨3, ![1, 4, 4096]⟩
abbrev S4x4096 : Shape := ⟨2, ![4, 4096]⟩
abbrev S1x1x16 : Shape := ⟨3, ![1, 1, 16]⟩
abbrev S1x16 : Shape := ⟨2, ![1, 16]⟩
abbrev S1x1 : Shape := ⟨2, ![1, 1]⟩
abbrev S256x4096 : Shape := ⟨2, ![256, 4096]⟩
abbrev S1x256x4096 : Shape := ⟨3, ![1, 256, 4096]⟩
abbrev S1 : Shape := ⟨1, ![1]⟩
abbrev S1x1x1 : Shape := ⟨3, ![1, 1, 1]⟩

abbrev nBuf : Table → Nat
  | .hbm => 12
  | .local .tc .vmem => 4
  | .local .tc .smem => 1
  | .local .scVector .vmem => 3
  | _ => 0

abbrev bufTy : (tb : Table) → Fin (nBuf tb) → BufTy
  | .hbm, ⟨0, _⟩ => ⟨S4096x4096, .f32⟩
  | .hbm, ⟨1, _⟩ => ⟨S4096x4096, .i32⟩
  | .hbm, ⟨2, _⟩ => ⟨S32x16, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local .tc .vmem, ⟨0, _⟩ => ⟨S256x4096, .f32⟩
  | .local .tc .vmem, ⟨1, _⟩ => ⟨S256x4096, .f32⟩
  | .local .tc .vmem, ⟨2, _⟩ => ⟨S256x4096, .i32⟩
  | .local .tc .vmem, ⟨3, _⟩ => ⟨S256x4096, .i32⟩
  | .local .tc .smem, ⟨0, _⟩ => ⟨S1x1, .f32⟩
  | .local .scVector .vmem, ⟨0, _⟩ => ⟨S2x4x4096, .f32⟩
  | .local .scVector .vmem, ⟨1, _⟩ => ⟨S2x4x4096, .i32⟩
  | .local .scVector .vmem, ⟨2, _⟩ => ⟨S16, .f32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := Scalar.addi v2 c0_i32
  let c0_i32_3 : BitVec 32 := 0#32
  ![v3.toNat, 0]
@[reducible] def k0_t1_loop : Scf.Loop 32 :=
  let c0_i32_48 : BitVec 32 := 0#32
  let c32_i32 : BitVec 32 := 32#32
  let v49 : BitVec 32 := Scalar.addi c0_i32_48 c32_i32
  let c1_i32_49 : BitVec 32 := 1#32
  ⟨c0_i32_48, v49, c1_i32_49⟩
def k0_off2 (k0_t1 : Fin k0_t1_loop.trips) (c0_i32_181 : BitVec 32) : Fin 3 → Nat :=
  let c0_i32_182 : BitVec 32 := 0#32
  let v155 : Index := Scalar.indexCast c0_i32_182
  let c0_i32_183 : BitVec 32 := 0#32
  let v156 : Index := Scalar.indexCast c0_i32_183
  let c0_i32_48 : BitVec 32 := 0#32
  let c1_i32_49 : BitVec 32 := 1#32
  let arg12 : BitVec 32 := Scf.iv c0_i32_48 c1_i32_49 k0_t1
  let c128_i32 : BitVec 32 := 128#32
  let v153 : BitVec 32 := Scalar.muli arg12 c128_i32
  let v154 : BitVec 32 := Scalar.addi v153 c0_i32_181
  let v157 : Index := Scalar.indexCast v154
  ![0, 0, v157.toNat]
@[reducible] def k0_t2_loop : Scf.Loop 32 :=
  let c0_i32_51 : BitVec 32 := 0#32
  let c32_i32_52 : BitVec 32 := 32#32
  let v51 : BitVec 32 := Scalar.addi c0_i32_51 c32_i32_52
  let c1_i32_53 : BitVec 32 := 1#32
  ⟨c0_i32_51, v51, c1_i32_53⟩
def k0_off3 (k0_t2 : Fin k0_t2_loop.trips) (c0_i32_181 : BitVec 32) : Fin 3 → Nat :=
  let c0_i32_182 : BitVec 32 := 0#32
  let v155 : Index := Scalar.indexCast c0_i32_182
  let c1_i32_183 : BitVec 32 := 1#32
  let v156 : Index := Scalar.indexCast c1_i32_183
  let c0_i32_51 : BitVec 32 := 0#32
  let c1_i32_53 : BitVec 32 := 1#32
  let arg12 : BitVec 32 := Scf.iv c0_i32_51 c1_i32_53 k0_t2
  let c128_i32 : BitVec 32 := 128#32
  let v153 : BitVec 32 := Scalar.muli arg12 c128_i32
  let v154 : BitVec 32 := Scalar.addi v153 c0_i32_181
  let v157 : Index := Scalar.indexCast v154
  ![0, 1, v157.toNat]
@[reducible] def k0_t3_loop : Scf.Loop 32 :=
  let c0_i32_55 : BitVec 32 := 0#32
  let c32_i32_56 : BitVec 32 := 32#32
  let v53 : BitVec 32 := Scalar.addi c0_i32_55 c32_i32_56
  let c1_i32_57 : BitVec 32 := 1#32
  ⟨c0_i32_55, v53, c1_i32_57⟩
def k0_off4 (k0_t3 : Fin k0_t3_loop.trips) (c0_i32_181 : BitVec 32) : Fin 3 → Nat :=
  let c0_i32_182 : BitVec 32 := 0#32
  let v155 : Index := Scalar.indexCast c0_i32_182
  let c2_i32_183 : BitVec 32 := 2#32
  let v156 : Index := Scalar.indexCast c2_i32_183
  let c0_i32_55 : BitVec 32 := 0#32
  let c1_i32_57 : BitVec 32 := 1#32
  let arg12 : BitVec 32 := Scf.iv c0_i32_55 c1_i32_57 k0_t3
  let c128_i32 : BitVec 32 := 128#32
  let v153 : BitVec 32 := Scalar.muli arg12 c128_i32
  let v154 : BitVec 32 := Scalar.addi v153 c0_i32_181
  let v157 : Index := Scalar.indexCast v154
  ![0, 2, v157.toNat]
@[reducible] def k0_t4_loop : Scf.Loop 32 :=
  let c0_i32_59 : BitVec 32 := 0#32
  let c32_i32_60 : BitVec 32 := 32#32
  let v55 : BitVec 32 := Scalar.addi c0_i32_59 c32_i32_60
  let c1_i32_61 : BitVec 32 := 1#32
  ⟨c0_i32_59, v55, c1_i32_61⟩
def k0_off5 (k0_t4 : Fin k0_t4_loop.trips) (c0_i32_181 : BitVec 32) : Fin 3 → Nat :=
  let c0_i32_182 : BitVec 32 := 0#32
  let v155 : Index := Scalar.indexCast c0_i32_182
  let c3_i32 : BitVec 32 := 3#32
  let v156 : Index := Scalar.indexCast c3_i32
  let c0_i32_59 : BitVec 32 := 0#32
  let c1_i32_61 : BitVec 32 := 1#32
  let arg12 : BitVec 32 := Scf.iv c0_i32_59 c1_i32_61 k0_t4
  let c128_i32 : BitVec 32 := 128#32
  let v153 : BitVec 32 := Scalar.muli arg12 c128_i32
  let v154 : BitVec 32 := Scalar.addi v153 c0_i32_181
  let v157 : Index := Scalar.indexCast v154
  ![0, 3, v157.toNat]
@[reducible] def k0_t5_loop : Scf.Loop 32 :=
  let c0_i32_91 : BitVec 32 := 0#32
  let c32_i32_92 : BitVec 32 := 32#32
  let v82 : BitVec 32 := Scalar.addi c0_i32_91 c32_i32_92
  let c1_i32_93 : BitVec 32 := 1#32
  ⟨c0_i32_91, v82, c1_i32_93⟩
def k0_off6 (k0_t5 : Fin k0_t5_loop.trips) (c0_i32_181 : BitVec 32) : Fin 3 → Nat :=
  let c1_i32_182 : BitVec 32 := 1#32
  let v155 : Index := Scalar.indexCast c1_i32_182
  let c0_i32_183 : BitVec 32 := 0#32
  let v156 : Index := Scalar.indexCast c0_i32_183
  let c0_i32_91 : BitVec 32 := 0#32
  let c1_i32_93 : BitVec 32 := 1#32
  let arg12 : BitVec 32 := Scf.iv c0_i32_91 c1_i32_93 k0_t5
  let c128_i32 : BitVec 32 := 128#32
  let v153 : BitVec 32 := Scalar.muli arg12 c128_i32
  let v154 : BitVec 32 := Scalar.addi v153 c0_i32_181
  let v157 : Index := Scalar.indexCast v154
  ![1, 0, v157.toNat]
@[reducible] def k0_t6_loop : Scf.Loop 32 :=
  let c0_i32_95 : BitVec 32 := 0#32
  let c32_i32_96 : BitVec 32 := 32#32
  let v84 : BitVec 32 := Scalar.addi c0_i32_95 c32_i32_96
  let c1_i32_97 : BitVec 32 := 1#32
  ⟨c0_i32_95, v84, c1_i32_97⟩
def k0_off7 (k0_t6 : Fin k0_t6_loop.trips) (c0_i32_181 : BitVec 32) : Fin 3 → Nat :=
  let c1_i32_182 : BitVec 32 := 1#32
  let v155 : Index := Scalar.indexCast c1_i32_182
  let c1_i32_183 : BitVec 32 := 1#32
  let v156 : Index := Scalar.indexCast c1_i32_183
  let c0_i32_95 : BitVec 32 := 0#32
  let c1_i32_97 : BitVec 32 := 1#32
  let arg12 : BitVec 32 := Scf.iv c0_i32_95 c1_i32_97 k0_t6
  let c128_i32 : BitVec 32 := 128#32
  let v153 : BitVec 32 := Scalar.muli arg12 c128_i32
  let v154 : BitVec 32 := Scalar.addi v153 c0_i32_181
  let v157 : Index := Scalar.indexCast v154
  ![1, 1, v157.toNat]
@[reducible] def k0_t7_loop : Scf.Loop 32 :=
  let c0_i32_99 : BitVec 32 := 0#32
  let c32_i32_100 : BitVec 32 := 32#32
  let v86 : BitVec 32 := Scalar.addi c0_i32_99 c32_i32_100
  let c1_i32_101 : BitVec 32 := 1#32
  ⟨c0_i32_99, v86, c1_i32_101⟩
def k0_off8 (k0_t7 : Fin k0_t7_loop.trips) (c0_i32_181 : BitVec 32) : Fin 3 → Nat :=
  let c1_i32_182 : BitVec 32 := 1#32
  let v155 : Index := Scalar.indexCast c1_i32_182
  let c2_i32_183 : BitVec 32 := 2#32
  let v156 : Index := Scalar.indexCast c2_i32_183
  let c0_i32_99 : BitVec 32 := 0#32
  let c1_i32_101 : BitVec 32 := 1#32
  let arg12 : BitVec 32 := Scf.iv c0_i32_99 c1_i32_101 k0_t7
  let c128_i32 : BitVec 32 := 128#32
  let v153 : BitVec 32 := Scalar.muli arg12 c128_i32
  let v154 : BitVec 32 := Scalar.addi v153 c0_i32_181
  let v157 : Index := Scalar.indexCast v154
  ![1, 2, v157.toNat]
@[reducible] def k0_t8_loop : Scf.Loop 32 :=
  let c0_i32_103 : BitVec 32 := 0#32
  let c32_i32_104 : BitVec 32 := 32#32
  let v88 : BitVec 32 := Scalar.addi c0_i32_103 c32_i32_104
  let c1_i32_105 : BitVec 32 := 1#32
  ⟨c0_i32_103, v88, c1_i32_105⟩
def k0_off9 (k0_t8 : Fin k0_t8_loop.trips) (c0_i32_181 : BitVec 32) : Fin 3 → Nat :=
  let c1_i32_182 : BitVec 32 := 1#32
  let v155 : Index := Scalar.indexCast c1_i32_182
  let c3_i32 : BitVec 32 := 3#32
  let v156 : Index := Scalar.indexCast c3_i32
  let c0_i32_103 : BitVec 32 := 0#32
  let c1_i32_105 : BitVec 32 := 1#32
  let arg12 : BitVec 32 := Scf.iv c0_i32_103 c1_i32_105 k0_t8
  let c128_i32 : BitVec 32 := 128#32
  let v153 : BitVec 32 := Scalar.muli arg12 c128_i32
  let v154 : BitVec 32 := Scalar.addi v153 c0_i32_181
  let v157 : Index := Scalar.indexCast v154
  ![1, 3, v157.toNat]
@[reducible] def k0_t9_loop : Scf.Loop 32 :=
  let c0_i32_135 : BitVec 32 := 0#32
  let c32_i32_136 : BitVec 32 := 32#32
  let v115 : BitVec 32 := Scalar.addi c0_i32_135 c32_i32_136
  let c1_i32_137 : BitVec 32 := 1#32
  ⟨c0_i32_135, v115, c1_i32_137⟩
def k0_off10 (k0_t9 : Fin k0_t9_loop.trips) (c0_i32_181 : BitVec 32) : Fin 3 → Nat :=
  let c0_i32_182 : BitVec 32 := 0#32
  let v155 : Index := Scalar.indexCast c0_i32_182
  let c0_i32_183 : BitVec 32 := 0#32
  let v156 : Index := Scalar.indexCast c0_i32_183
  let c0_i32_135 : BitVec 32 := 0#32
  let c1_i32_137 : BitVec 32 := 1#32
  let arg12 : BitVec 32 := Scf.iv c0_i32_135 c1_i32_137 k0_t9
  let c128_i32 : BitVec 32 := 128#32
  let v153 : BitVec 32 := Scalar.muli arg12 c128_i32
  let v154 : BitVec 32 := Scalar.addi v153 c0_i32_181
  let v157 : Index := Scalar.indexCast v154
  ![0, 0, v157.toNat]
@[reducible] def k0_t10_loop : Scf.Loop 32 :=
  let c0_i32_139 : BitVec 32 := 0#32
  let c32_i32_140 : BitVec 32 := 32#32
  let v117 : BitVec 32 := Scalar.addi c0_i32_139 c32_i32_140
  let c1_i32_141 : BitVec 32 := 1#32
  ⟨c0_i32_139, v117, c1_i32_141⟩
def k0_off11 (k0_t10 : Fin k0_t10_loop.trips) (c0_i32_181 : BitVec 32) : Fin 3 → Nat :=
  let c0_i32_182 : BitVec 32 := 0#32
  let v155 : Index := Scalar.indexCast c0_i32_182
  let c1_i32_183 : BitVec 32 := 1#32
  let v156 : Index := Scalar.indexCast c1_i32_183
  let c0_i32_139 : BitVec 32 := 0#32
  let c1_i32_141 : BitVec 32 := 1#32
  let arg12 : BitVec 32 := Scf.iv c0_i32_139 c1_i32_141 k0_t10
  let c128_i32 : BitVec 32 := 128#32
  let v153 : BitVec 32 := Scalar.muli arg12 c128_i32
  let v154 : BitVec 32 := Scalar.addi v153 c0_i32_181
  let v157 : Index := Scalar.indexCast v154
  ![0, 1, v157.toNat]
@[reducible] def k0_t11_loop : Scf.Loop 32 :=
  let c0_i32_143 : BitVec 32 := 0#32
  let c32_i32_144 : BitVec 32 := 32#32
  let v119 : BitVec 32 := Scalar.addi c0_i32_143 c32_i32_144
  let c1_i32_145 : BitVec 32 := 1#32
  ⟨c0_i32_143, v119, c1_i32_145⟩
def k0_off12 (k0_t11 : Fin k0_t11_loop.trips) (c0_i32_181 : BitVec 32) : Fin 3 → Nat :=
  let c0_i32_182 : BitVec 32 := 0#32
  let v155 : Index := Scalar.indexCast c0_i32_182
  let c2_i32_183 : BitVec 32 := 2#32
  let v156 : Index := Scalar.indexCast c2_i32_183
  let c0_i32_143 : BitVec 32 := 0#32
  let c1_i32_145 : BitVec 32 := 1#32
  let arg12 : BitVec 32 := Scf.iv c0_i32_143 c1_i32_145 k0_t11
  let c128_i32 : BitVec 32 := 128#32
  let v153 : BitVec 32 := Scalar.muli arg12 c128_i32
  let v154 : BitVec 32 := Scalar.addi v153 c0_i32_181
  let v157 : Index := Scalar.indexCast v154
  ![0, 2, v157.toNat]
@[reducible] def k0_t12_loop : Scf.Loop 32 :=
  let c0_i32_147 : BitVec 32 := 0#32
  let c32_i32_148 : BitVec 32 := 32#32
  let v121 : BitVec 32 := Scalar.addi c0_i32_147 c32_i32_148
  let c1_i32_149 : BitVec 32 := 1#32
  ⟨c0_i32_147, v121, c1_i32_149⟩
def k0_off13 (k0_t12 : Fin k0_t12_loop.trips) (c0_i32_181 : BitVec 32) : Fin 3 → Nat :=
  let c0_i32_182 : BitVec 32 := 0#32
  let v155 : Index := Scalar.indexCast c0_i32_182
  let c3_i32 : BitVec 32 := 3#32
  let v156 : Index := Scalar.indexCast c3_i32
  let c0_i32_147 : BitVec 32 := 0#32
  let c1_i32_149 : BitVec 32 := 1#32
  let arg12 : BitVec 32 := Scf.iv c0_i32_147 c1_i32_149 k0_t12
  let c128_i32 : BitVec 32 := 128#32
  let v153 : BitVec 32 := Scalar.muli arg12 c128_i32
  let v154 : BitVec 32 := Scalar.addi v153 c0_i32_181
  let v157 : Index := Scalar.indexCast v154
  ![0, 3, v157.toNat]
@[reducible] def k0_t13_loop : Scf.Loop 32 :=
  let c0_i32_165 : BitVec 32 := 0#32
  let c32_i32_166 : BitVec 32 := 32#32
  let v135 : BitVec 32 := Scalar.addi c0_i32_165 c32_i32_166
  let c1_i32_167 : BitVec 32 := 1#32
  ⟨c0_i32_165, v135, c1_i32_167⟩
def k0_off14 (k0_t13 : Fin k0_t13_loop.trips) (c0_i32_181 : BitVec 32) : Fin 3 → Nat :=
  let c1_i32_182 : BitVec 32 := 1#32
  let v155 : Index := Scalar.indexCast c1_i32_182
  let c0_i32_183 : BitVec 32 := 0#32
  let v156 : Index := Scalar.indexCast c0_i32_183
  let c0_i32_165 : BitVec 32 := 0#32
  let c1_i32_167 : BitVec 32 := 1#32
  let arg12 : BitVec 32 := Scf.iv c0_i32_165 c1_i32_167 k0_t13
  let c128_i32 : BitVec 32 := 128#32
  let v153 : BitVec 32 := Scalar.muli arg12 c128_i32
  let v154 : BitVec 32 := Scalar.addi v153 c0_i32_181
  let v157 : Index := Scalar.indexCast v154
  ![1, 0, v157.toNat]
@[reducible] def k0_t14_loop : Scf.Loop 32 :=
  let c0_i32_169 : BitVec 32 := 0#32
  let c32_i32_170 : BitVec 32 := 32#32
  let v137 : BitVec 32 := Scalar.addi c0_i32_169 c32_i32_170
  let c1_i32_171 : BitVec 32 := 1#32
  ⟨c0_i32_169, v137, c1_i32_171⟩
def k0_off15 (k0_t14 : Fin k0_t14_loop.trips) (c0_i32_181 : BitVec 32) : Fin 3 → Nat :=
  let c1_i32_182 : BitVec 32 := 1#32
  let v155 : Index := Scalar.indexCast c1_i32_182
  let c1_i32_183 : BitVec 32 := 1#32
  let v156 : Index := Scalar.indexCast c1_i32_183
  let c0_i32_169 : BitVec 32 := 0#32
  let c1_i32_171 : BitVec 32 := 1#32
  let arg12 : BitVec 32 := Scf.iv c0_i32_169 c1_i32_171 k0_t14
  let c128_i32 : BitVec 32 := 128#32
  let v153 : BitVec 32 := Scalar.muli arg12 c128_i32
  let v154 : BitVec 32 := Scalar.addi v153 c0_i32_181
  let v157 : Index := Scalar.indexCast v154
  ![1, 1, v157.toNat]
@[reducible] def k0_t15_loop : Scf.Loop 32 :=
  let c0_i32_173 : BitVec 32 := 0#32
  let c32_i32_174 : BitVec 32 := 32#32
  let v139 : BitVec 32 := Scalar.addi c0_i32_173 c32_i32_174
  let c1_i32_175 : BitVec 32 := 1#32
  ⟨c0_i32_173, v139, c1_i32_175⟩
def k0_off16 (k0_t15 : Fin k0_t15_loop.trips) (c0_i32_181 : BitVec 32) : Fin 3 → Nat :=
  let c1_i32_182 : BitVec 32 := 1#32
  let v155 : Index := Scalar.indexCast c1_i32_182
  let c2_i32_183 : BitVec 32 := 2#32
  let v156 : Index := Scalar.indexCast c2_i32_183
  let c0_i32_173 : BitVec 32 := 0#32
  let c1_i32_175 : BitVec 32 := 1#32
  let arg12 : BitVec 32 := Scf.iv c0_i32_173 c1_i32_175 k0_t15
  let c128_i32 : BitVec 32 := 128#32
  let v153 : BitVec 32 := Scalar.muli arg12 c128_i32
  let v154 : BitVec 32 := Scalar.addi v153 c0_i32_181
  let v157 : Index := Scalar.indexCast v154
  ![1, 2, v157.toNat]
@[reducible] def k0_t16_loop : Scf.Loop 32 :=
  let c0_i32_177 : BitVec 32 := 0#32
  let c32_i32_178 : BitVec 32 := 32#32
  let v141 : BitVec 32 := Scalar.addi c0_i32_177 c32_i32_178
  let c1_i32_179 : BitVec 32 := 1#32
  ⟨c0_i32_177, v141, c1_i32_179⟩
def k0_off17 (k0_t16 : Fin k0_t16_loop.trips) (c0_i32_181 : BitVec 32) : Fin 3 → Nat :=
  let c1_i32_182 : BitVec 32 := 1#32
  let v155 : Index := Scalar.indexCast c1_i32_182
  let c3_i32 : BitVec 32 := 3#32
  let v156 : Index := Scalar.indexCast c3_i32
  let c0_i32_177 : BitVec 32 := 0#32
  let c1_i32_179 : BitVec 32 := 1#32
  let arg12 : BitVec 32 := Scf.iv c0_i32_177 c1_i32_179 k0_t16
  let c128_i32 : BitVec 32 := 128#32
  let v153 : BitVec 32 := Scalar.muli arg12 c128_i32
  let v154 : BitVec 32 := Scalar.addi v153 c0_i32_181
  let v157 : Index := Scalar.indexCast v154
  ![1, 3, v157.toNat]
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_181_r0 : BitVec 32 := 0#32
  ![v1.toNat, 0]
abbrev grid1 : Pipeline.Grid := ⟨1, ![14], ![false]⟩

def k1_cond1 (i : grid1.Coords) : BitVec 1 :=
  let arg0 : BitVec 32 := BitVec.ofNat 32 (i 0).val
  let c0_i32_6 : BitVec 32 := 0#32
  let v17 : BitVec 1 := Scalar.cmpi .eq arg0 c0_i32_6
  let v18 : BitVec 32 := Scalar.extui v17
  let c0_i32_7 : BitVec 32 := 0#32
  let v19 : BitVec 1 := Scalar.cmpi .ne v18 c0_i32_7
  v19

def k1_cond2 (i : grid1.Coords) : BitVec 1 :=
  let arg0 : BitVec 32 := BitVec.ofNat 32 (i 0).val
  let c0_i32_8 : BitVec 32 := 0#32
  let v20 : BitVec 1 := Scalar.cmpi .ne arg0 c0_i32_8
  let v21 : BitVec 32 := Scalar.extui v20
  let c0_i32_9 : BitVec 32 := 0#32
  let v22 : BitVec 1 := Scalar.cmpi .ne v21 c0_i32_9
  v22

def cc1_transform_0 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x4096 : Shape := ⟨2, ![4096, 4096]⟩
abbrev S16777216 : Shape := ⟨1, ![16777216]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S16777216, .f32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S16777216, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Base.lean ====
/-
  The program as the launch theorem sees it, the ghost state, and the VALUES: what the focal term of one element is, what
  each accumulator, each tile and the whole result of the SparseCore call hold, as functions of the two operands.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.ValueLayout
public import Idealize.ShloMosaic.Lib.ValueIdxCore
public import Idealize.ShloMosaic.Lib.Tactic

@[expose] public section

noncomputable section

namespace Cert.Proof.Focal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The values -/

/-- An array of 4096 rows and columns read at two naturals. -/
abbrev gx {α : Type} (X : S4096x4096.Idx → α) (r c : ℕ) : α := X (ix2 (Fin.ofNat 4096 r) (Fin.ofNat 4096 c))

/-- What one slot of a scratch buffer holds once the four rows from `base` have landed in it (either slot reads the same). -/
abbrev slotF {α : Type} (X : S4096x4096.Idx → α) (base : ℕ) : S2x4x4096.Idx → α := fun p => gx X (base + (p 1).val) (p 2).val

variable [FloatOps F]

/-- The focal term of one probability and one target: the squared complement of `p` times its logarithm. -/
def ft (x : F .f32) (t : BitVec 32) : F .f32 :=
  let p : F .f32 := Scalar.select (IntOp.cmpi .ne t 0#32) x (FloatOps.subf (Scalar.ofBits .f32 0x3F800000#32) x)
  let q : F .f32 := FloatOps.subf (Scalar.ofBits .f32 0x3F800000#32) p
  FloatOps.mulf (FloatOps.mulf q q) (FloatOps.log p)

variable (X : S4096x4096.Idx → F .f32) (Tg : S4096x4096.Idx → BitVec 32)

/-- Accumulator `u` after `n` trips over row `row`, from `a`. -/
def accTo (row : ℕ) (u : ℕ) (a : FVec F S16 .f32) : ℕ → FVec F S16 .f32
  | 0 => a
  | n + 1 => fun l => FloatOps.subf (accTo row u a n l)
      (ft (gx X row (128 * n + 16 * u + (l 0).val)) (gx Tg row (128 * n + 16 * u + (l 0).val)))

/-- The eight accumulators after `n` rows from row `base`. -/
def tileAcc (base : ℕ) : ℕ → Fin 8 → FVec F S16 .f32
  | 0 => fun _ _ => Scalar.ofBits .f32 0x00000000#32
  | n + 1 => fun u => accTo X Tg (base + n) u.val (tileAcc base n u) 32

/-- The lanes one tile writes: its eight accumulators' sum. -/
def tileOut (base : ℕ) : FVec F S16 .f32 :=
  let A := tileAcc X Tg base 16
  k0_pay234 (A 0) (A 1) (A 2) (A 3) (A 4) (A 5) (A 6) (A 7)

/-- The whole result of the SparseCore call. -/
def outV : S32x16.Idx → F .f32 := fun p => tileOut X Tg (16 * (p 0).val) (ix1 (p 1))

end Cert.Proof.Focal

end
-- ==== Proof.Trip.lean ====
/-
  One trip of the SparseCore body's inner loops: eight pairs of loads (a probability lane and a target lane), each pair
  folded into its own accumulator. All sixteen printed loop regions are this one program at their own offsets, and the run
  of a trip and of a whole loop is proved once here, for any slot, row and scratch buffers.
-/
module

public import proofs.«01_k».proof.Proof.Base

@[expose] public section

noncomputable section

namespace Cert.Proof.Focal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (i : grid0.Coords) : Fin τ.nSC := (i 0).castLE hcore0
abbrev jV (i : grid0.Coords) : Fin τ.nSub := (i 1).castLE hsub0
/-- The vector subcore at the grid coordinates. -/
abbrev thr (d : Dev nD) (i : grid0.Coords) : Thread nD τ := V d (cV i) (jV i)
/-- Programs of that subcore's kernel. -/
abbrev TProg (F : FTy → Type) (i : grid0.Coords) (α : Type) : Type 1 := Prog (TpuEff nD τ sig (Elt F) Λ₀ (.scVector (cV i) (jV i))) α

/-- The elements of slot `b` of a scratch buffer. -/
def slotSet (b : ℕ) : Finset S2x4x4096.Idx := Finset.univ.filter fun p => (p 0).val = b

theorem mem_slotSet {b : ℕ} {p : S2x4x4096.Idx} : p ∈ slotSet b ↔ (p 0).val = b := by simp [slotSet]

/-- Through the buffer `m`, slot `b` reads the four rows of `X` from `base`. -/
def Reads {e : EltTy} (d : Dev nD) (i : grid0.Coords) (m : Memref sig .scVector .vmem S2x4x4096 e) (b base : ℕ) (X : S4096x4096.Idx → Elt F e)
    (f : Buf (Elt F) (m.view.loc (thr d i))) : Prop :=
  ∀ p ∈ slotSet b, m.view.read (Elt F) f p = slotF X base p

/-- The eight accumulators as the loops carry them. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- Eight accumulators, numbered, as the carried tuple. -/
abbrev tup (A : Fin 8 → FVec F S16 .f32) : Acc8 F := (A 0, A 1, A 2, A 3, A 4, A 5, A 6, A 7)

abbrev Inb (off : BitVec 32 → Fin 3 → ℕ) : Prop := ∀ r : Fin 8, ∀ a, (off (BitVec.ofNat 32 (16 * r.val))) a + S1x1x16.size a ≤ S2x4x4096.size a

/-- The sixteen-lane box of accumulator `r` at the offsets `off`. -/
abbrev box (off : BitVec 32 → Fin 3 → ℕ) (inb : Inb off) (r : Fin 8) : Rect S2x4x4096 :=
  Rect.unit (s := S2x4x4096) (off (BitVec.ofNat 32 (16 * r.val))) S1x1x16.size (inb r)

variable [FloatOps F]

/-- One accumulator's update by the lanes loaded. -/
abbrev upd (a : FVec F S16 .f32) (x : Vec F S1x1x16 .f32) (t : Vec F S1x1x16 .i32) : FVec F S16 .f32 := k0_pay2 a x t

/-- A load of a box of one of the scratch buffers. -/
abbrev ld (i : grid0.Coords) {e : EltTy} (m : Memref sig .scVector .vmem S2x4x4096 e) (off : BitVec 32 → Fin 3 → ℕ) (inb : Inb off) (r : Fin 8) :
    TProg F i (Vec F S1x1x16 e) :=
  Prog.lift (.load m (box off inb r).toLoadRect (View.loadsAt_vmem h_S1x1x16))

/-- One trip. -/
def trip (i : grid0.Coords) (xm : Memref sig .scVector .vmem S2x4x4096 .f32) (tm : Memref sig .scVector .vmem S2x4x4096 .i32) (off : BitVec 32 → Fin 3 → ℕ)
    (inb : Inb off) : Acc8 F → TProg F i (Acc8 F) :=
  fun (a0, a1, a2, a3, a4, a5, a6, a7) => do
    let x0 ← ld i xm off inb 0
    let t0 ← ld i tm off inb 0
    let x1 ← ld i xm off inb 1
    let t1 ← ld i tm off inb 1
    let x2 ← ld i xm off inb 2
    let t2 ← ld i tm off inb 2
    let x3 ← ld i xm off inb 3
    let t3 ← ld i tm off inb 3
    let x4 ← ld i xm off inb 4
    let t4 ← ld i tm off inb 4
    let x5 ← ld i xm off inb 5
    let t5 ← ld i tm off inb 5
    let x6 ← ld i xm off inb 6
    let t6 ← ld i tm off inb 6
    let x7 ← ld i xm off inb 7
    let t7 ← ld i tm off inb 7
    Pure.pure (upd a0 x0 t0, upd a1 x1 t1, upd a2 x2 t2, upd a3 x3 t3, upd a4 x4 t4, upd a5 x5 t5, upd a6 x6 t6, upd a7 x7 t7)

/-- Sixteen consecutive elements of a row, as a load returns them. -/
abbrev lane {e : EltTy} (X : S4096x4096.Idx → Elt F e) (r c : ℕ) : Vec F S1x1x16 e := fun p => gx X r (c + (p 2).val)

omit [FloatOps F] in
theorem cast_lane {e : EltTy} (X : S4096x4096.Idx → Elt F e) (r c : ℕ) (l : S16.Idx) :
    shapeCast S16 (lane X r c) shapeCasts_S1x1x16_S16 l = gx X r (c + (l 0).val) := by
  rw [shapeCast_apply (lane X r c) shapeCasts_S1x1x16_S16 l (ix3 0 0 (l 0)) (by
    rw [Shape.rowMajor_val_three, Shape.rowMajor_val_one]
    show (0 * 1 + 0) * 16 + (l 0).val = (l 0).val; omega)]

/-- The update by the lanes of two arrays at one place, lane by lane. -/
theorem upd_lane (a : FVec F S16 .f32) (X : S4096x4096.Idx → F .f32) (Tg : S4096x4096.Idx → BitVec 32) (r c : ℕ) :
    upd a (lane (e := .f32) X r c) (lane (e := .i32) Tg r c) = fun l => FloatOps.subf (a l) (ft (gx X r (c + (l 0).val)) (gx Tg r (c + (l 0).val))) := by
  funext l
  have hx := cast_lane (F := F) (e := .f32) X r c l
  have ht := cast_lane (F := F) (e := .i32) Tg r c l
  rw [← hx, ← ht]
  rfl

section Wp

variable (d : Dev nD) (i : grid0.Coords)

omit [FloatOps F] in
theorem box_mem {off : BitVec 32 → Fin 3 → ℕ} {inb : Inb off} {r : Fin 8} {b row c : ℕ} (hoff : off (BitVec.ofNat 32 (16 * r.val)) = ![b, row, c])
    (p : (box off inb r).shape.Idx) :
    (((box off inb r).emb p) 0).val = b ∧ (((box off inb r).emb p) 1).val = row ∧ (((box off inb r).emb p) 2).val = c + (p 2).val := by
  have h0 : (p 0).val = 0 := by have h : (p 0).val < 1 := (p 0).isLt; omega
  have h1 : (p 1).val = 0 := by have h : (p 1).val < 1 := (p 1).isLt; omega
  refine ⟨?_, ?_, ?_⟩
  · show off (BitVec.ofNat 32 (16 * r.val)) 0 + 1 * (p 0).val = b
    rw [hoff, h0]; simp
  · show off (BitVec.ofNat 32 (16 * r.val)) 1 + 1 * (p 1).val = row
    rw [hoff, h1]; simp
  · show off (BitVec.ofNat 32 (16 * r.val)) 2 + 1 * (p 2).val = c + (p 2).val
    rw [hoff]; simp

/-- One load: what the slot holds at the box is the lane of the array. -/
theorem wp_ld {e : EltTy} {m : Memref sig .scVector .vmem S2x4x4096 e} {off : BitVec 32 → Fin 3 → ℕ} {inb : Inb off} {r : Fin 8} {b base row c : ℕ}
    (hoff : off (BitVec.ofNat 32 (16 * r.val)) = ![b, row, c]) {X : S4096x4096.Idx → Elt F e} {f : Buf (Elt F) (m.view.loc (thr d i))}
    (hf : Reads d i m b base X f) {q : PosShare TreeShare} {α : Type} {k : Vec F S1x1x16 e → TProg F i α} {Q : α → sProp 𝕄} :
    (m.view.loc (thr d i) ↦[m.view.setOn (slotSet b)]{q} f)
      ⊢ iprop(((m.view.loc (thr d i) ↦[m.view.setOn (slotSet b)]{q} f) -∗ wp frame (wpE (defs₀ (F := F)) 𝒱₀ (thr d i) none) Set.univ (k (lane X (base + row) c)) Q)
        -∗ wp frame (wpE (defs₀ (F := F)) 𝒱₀ (thr d i) none) Set.univ (ld i m off inb r >>= k) Q) := by
  have hread : m.view.readAt (Elt F) (box off inb r).toLoadRect f = lane X (base + row) c := by
    funext p
    rw [View.readAt_apply]
    obtain ⟨h0, h1, h2⟩ := box_mem (inb := inb) hoff p
    refine (hf _ (mem_slotSet.mpr h0)).trans ?_
    show gx X (base + (((box off inb r).emb p) 1).val) (((box off inb r).emb p) 2).val = _
    rw [h1, h2]
  have hS : m.view.setOn (box off inb r).toLoadRect.set ⊆ m.view.setOn (slotSet b) := by
    refine Finset.map_subset_map.mpr fun x hx => ?_

    obtain ⟨p, rfl⟩ := LoadRect.exists_idx_of_mem _ hx
    exact mem_slotSet.mpr (box_mem (inb := inb) hoff p).1
  rw [← hread]
  exact wp_load (defs := defs₀ (F := F)) 𝒱₀ (thr d i) none Set.univ hS

variable {xm : Memref sig .scVector .vmem S2x4x4096 .f32} {tm : Memref sig .scVector .vmem S2x4x4096 .i32} {b base : ℕ}
  {X : S4096x4096.Idx → F .f32} {Tg : S4096x4096.Idx → BitVec 32}
  {fx : Buf (Elt F) (xm.view.loc (thr d i))} {fg : Buf (Elt F) (tm.view.loc (thr d i))}

/-- A slot of each of the two scratch buffers. -/
abbrev slots (xm : Memref sig .scVector .vmem S2x4x4096 .f32) (tm : Memref sig .scVector .vmem S2x4x4096 .i32) (b : ℕ)
    (fx : Buf (Elt F) (xm.view.loc (thr d i))) (fg : Buf (Elt F) (tm.view.loc (thr d i))) : sProp 𝕄 :=
  iprop((xm.view.loc (thr d i) ↦[xm.view.setOn (slotSet b)]{fullShare} fx) ∗ (tm.view.loc (thr d i) ↦[tm.view.setOn (slotSet b)]{fullShare} fg))

/-- A pair of loads at one box. -/
theorem wp_pair (hx : Reads d i xm b base X fx) (ht : Reads (F := F) (e := .i32) d i tm b base Tg fg)
    {off : BitVec 32 → Fin 3 → ℕ} {inb : Inb off} (r : Fin 8) {row c : ℕ}
    (hoff : off (BitVec.ofNat 32 (16 * r.val)) = ![b, row, c]) {α : Type} {k : Vec F S1x1x16 .f32 → Vec F S1x1x16 .i32 → TProg F i α} {Q : α → sProp 𝕄} :
    slots d i xm tm b fx fg
      ⊢ iprop((slots d i xm tm b fx fg -∗ wp frame (wpE (defs₀ (F := F)) 𝒱₀ (thr d i) none) Set.univ
            (k (lane (e := .f32) X (base + row) c) (lane (e := .i32) Tg (base + row) c)) Q)
        -∗ wp frame (wpE (defs₀ (F := F)) 𝒱₀ (thr d i) none) Set.univ (ld i xm off inb r >>= fun x => ld i tm off inb r >>= k x) Q) := by
  iintro ⟨Hx, Ht⟩ Hk
  iapply (wp_ld d i hoff hx) $$ Hx
  iintro Hx
  iapply (wp_ld (e := .i32) d i hoff ht) $$ Ht
  iintro Ht
  iapply Hk
  isplitl [Hx]; · iexact Hx
  iexact Ht

/-- A whole trip. -/
theorem wp_trip (hx : Reads d i xm b base X fx) (ht : Reads (F := F) (e := .i32) d i tm b base Tg fg)
    {off : BitVec 32 → Fin 3 → ℕ} {inb : Inb off} {row n : ℕ} (A : Fin 8 → FVec F S16 .f32)
    (hoff : ∀ r : Fin 8, off (BitVec.ofNat 32 (16 * r.val)) = ![b, row, 128 * n + 16 * r.val]) {Q : Acc8 F → sProp 𝕄} :
    iprop(slots d i xm tm b fx fg
        ∗ (slots d i xm tm b fx fg -∗ Q (tup fun u l => FloatOps.subf (A u l)
            (ft (gx X (base + row) (128 * n + 16 * u.val + (l 0).val)) (gx Tg (base + row) (128 * n + 16 * u.val + (l 0).val))))))
      ⊢ wp frame (wpE (defs₀ (F := F)) 𝒱₀ (thr d i) none) Set.univ (trip i xm tm off inb (tup A)) Q := by
  unfold trip
  iintro ⟨H, Hk⟩
  iapply (wp_pair d i hx ht 0 (hoff 0)) $$ H
  iintro H
  iapply (wp_pair d i hx ht 1 (hoff 1)) $$ H
  iintro H
  iapply (wp_pair d i hx ht 2 (hoff 2)) $$ H
  iintro H
  iapply (wp_pair d i hx ht 3 (hoff 3)) $$ H
  iintro H
  iapply (wp_pair d i hx ht 4 (hoff 4)) $$ H
  iintro H
  iapply (wp_pair d i hx ht 5 (hoff 5)) $$ H
  iintro H
  iapply (wp_pair d i hx ht 6 (hoff 6)) $$ H
  iintro H
  iapply (wp_pair d i hx ht 7 (hoff 7)) $$ H
  iintro H
  rw [wp_pure]
  imodintro
  simp only [upd_lane]
  iapply Hk
  iexact H

/-- A whole inner loop, at the head of a program: thirty-two trips over one row of one slot. -/
theorem wp_row (hx : Reads d i xm b base X fx) (ht : Reads (F := F) (e := .i32) d i tm b base Tg fg)
    {l : Scf.Loop 32} {hok : l.OK} (hl : l.trips = 32) {body : Fin l.trips → Acc8 F → TProg F i (Acc8 F)}
    (off : Fin l.trips → BitVec 32 → Fin 3 → ℕ) (inb : ∀ k, Inb (off k)) (hbody : body = fun k => trip i xm tm (off k) (inb k))
    (row : ℕ) (hoff : ∀ k (r : Fin 8), off k (BitVec.ofNat 32 (16 * r.val)) = ![b, row, 128 * k.val + 16 * r.val])
    (A : Fin 8 → FVec F S16 .f32) {α : Type} {kk : Acc8 F → TProg F i α} {Q : α → sProp 𝕄} :
    slots d i xm tm b fx fg
      ⊢ iprop((slots d i xm tm b fx fg -∗ wp frame (wpE (defs₀ (F := F)) 𝒱₀ (thr d i) none) Set.univ
            (kk (tup fun u => accTo X Tg (base + row) u.val (A u) 32)) Q)
        -∗ wp frame (wpE (defs₀ (F := F)) 𝒱₀ (thr d i) none) Set.univ (Scf.Loop.for l hok (tup A) body >>= kk) Q) := by
  subst hbody
  iintro H Hk
  iapply (Scf.wp_for_bind frame _ Set.univ l.lb l.ub l.st hok (tup A) (fun k => trip i xm tm (off k) (inb k))
    (fun n acc => iprop(⌜acc = tup fun u => accTo X Tg (base + row) u.val (A u) n⌝ ∗ slots d i xm tm b fx fg)) ?_) $$ [H]
  · intro k acc
    iintro ⟨%hacc, H⟩
    subst hacc
    iapply (wp_trip d i hx ht _ (hoff k))
    isplitl [H]; · iexact H
    iintro H
    isplitr; · ipureintro; rfl
    iexact H
  · isplitr; · ipureintro; rfl
    iexact H
  iintro %acc ⟨%hacc, H⟩
  rw [show Scf.trips l.lb l.ub l.st = 32 from hl] at hacc
  subst hacc
  iapply Hk
  iexact H

/-- The same, as one more row of the tile's running accumulators. -/
theorem wp_tileRow (hx : Reads d i xm b base X fx) (ht : Reads (F := F) (e := .i32) d i tm b base Tg fg)
    {l : Scf.Loop 32} {hok : l.OK} (hl : l.trips = 32) {body : Fin l.trips → Acc8 F → TProg F i (Acc8 F)}
    (off : Fin l.trips → BitVec 32 → Fin 3 → ℕ) (inb : ∀ k, Inb (off k)) (hbody : body = fun k => trip i xm tm (off k) (inb k))
    (row : ℕ) (hoff : ∀ k (r : Fin 8), off k (BitVec.ofNat 32 (16 * r.val)) = ![b, row, 128 * k.val + 16 * r.val])
    (B n : ℕ) (hn : base + row = B + n) {α : Type} {kk : Acc8 F → TProg F i α} {Q : α → sProp 𝕄} :
    slots d i xm tm b fx fg
      ⊢ iprop((slots d i xm tm b fx fg -∗ wp frame (wpE (defs₀ (F := F)) 𝒱₀ (thr d i) none) Set.univ
            (kk (tup (tileAcc X Tg B (n + 1)))) Q)
        -∗ wp frame (wpE (defs₀ (F := F)) 𝒱₀ (thr d i) none) Set.univ (Scf.Loop.for l hok (tup (tileAcc X Tg B n)) body >>= kk) Q) := by
  have h := wp_row d i hx ht hl (hok := hok) off inb hbody row hoff (tileAcc X Tg B n) (kk := kk) (Q := Q)
  rw [hn] at h
  exact h

end Wp

end Cert.Proof.Focal

end
-- ==== Proof.Xfer.lean ====
/-
  The transfers of the SparseCore body: four rows of a 4096 × 4096 array into one slot of a scratch buffer, issued and
  awaited. Both arrays, both slots and all four chunks are one lemma.
-/
module

public import proofs.«01_k».proof.Proof.Trip

@[expose] public section

noncomputable section

namespace Cert.Proof.Focal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable (d : Dev nD) (i : grid0.Coords)

/-- Four rows of an array in HBM. -/
abbrev rows4 {e : EltTy} (m : Memref sig .scVector .hbm S4096x4096 e) (off : Fin 2 → ℕ) (inb : ∀ a, off a + S4x4096.size a ≤ S4096x4096.size a) :
    Memref sig .scVector .hbm S4x4096 e :=
  m.slice (Rect.unit (s := S4096x4096) off S4x4096.size inb) (fun _ => rfl)

/-- One slot of a scratch buffer. -/
abbrev slot {e : EltTy} (m : Memref sig .scVector .vmem S2x4x4096 e) (off : Fin 3 → ℕ) (inb : ∀ a, off a + S1x4x4096.size a ≤ S2x4x4096.size a) :
    Memref sig .scVector .vmem S4x4096 e :=
  (m.slice (Rect.unit (s := S2x4x4096) off S1x4x4096.size inb) (fun _ => rfl)).squeeze S4x4096 squeezes_S1x4x4096_S4x4096

/-- What a slot's transfer credits. -/
abbrev crd {e : EltTy} (m : Memref sig .scVector .vmem S2x4x4096 e) : ℕ := m.view.ref.dmaCredit S4x4096 e

theorem slot_idx (p : S2x4x4096.Idx) :
    Shape.reshapeEquiv squeezes_S1x4x4096_S4x4096.numel_eq (ix2 (p 1) (p 2) : S4x4096.Idx) = (ix3 0 (p 1) (p 2) : S1x4x4096.Idx) := by
  apply Shape.reshapeEquiv_eq_of_rowMajor
  rw [Shape.rowMajor_val_three, Shape.rowMajor_val_two]
  show (0 * 4 + (p 1).val) * 4096 + (p 2).val = (p 1).val * 4096 + (p 2).val
  omega

theorem slot_emb {e : EltTy} (m : Memref sig .scVector .vmem S2x4x4096 e) {b : ℕ} {off : Fin 3 → ℕ} {inb} (ho : off = ![b, 0, 0])
    (p : S2x4x4096.Idx) (hp : p ∈ slotSet b) : (slot m off inb).view.emb (ix2 (p 1) (p 2)) = m.view.emb p := by
  have hb : (p 0).val = b := mem_slotSet.mp hp
  show m.view.emb ((Rect.unit (s := S2x4x4096) off S1x4x4096.size inb).emb (Shape.reshapeEquiv _ (ix2 (p 1) (p 2) : S4x4096.Idx))) = _
  congr 1
  rw [slot_idx p]
  subst ho
  funext a
  apply Fin.ext
  match a with
  | ⟨0, _⟩ => show b + 1 * 0 = (p 0).val; omega
  | ⟨1, _⟩ => show 0 + 1 * (p 1).val = (p 1).val; omega
  | ⟨2, _⟩ => show 0 + 1 * (p 2).val = (p 2).val; omega

theorem slot_set {e : EltTy} (m : Memref sig .scVector .vmem S2x4x4096 e) {b : ℕ} (hb : b < 2) {off : Fin 3 → ℕ} {inb} (ho : off = ![b, 0, 0]) :
    (slot m off inb).view.set ⊆ m.view.setOn (slotSet b) := by
  intro x hx
  obtain ⟨j, -, rfl⟩ := Finset.mem_map.mp hx
  have hj : j = ix2 (j 0) (j 1) := eq_ix2 j
  have he := slot_emb m (inb := inb) ho (ix3 ⟨b, hb⟩ (j 0) (j 1) : S2x4x4096.Idx) (mem_slotSet.mpr rfl)
  have he' : (slot m off inb).view.emb j = m.view.emb (ix3 ⟨b, hb⟩ (j 0) (j 1) : S2x4x4096.Idx) := by
    rw [← he]; exact congrArg _ hj
  rw [he']
  exact (View.mem_setOn _).mpr (mem_slotSet.mpr rfl)

/-- After the four rows from `base` have landed in slot `b`, the slot reads them. -/
theorem slot_reads {e : EltTy} (sm : Memref sig .scVector .hbm S4096x4096 e) (m : Memref sig .scVector .vmem S2x4x4096 e) {b base : ℕ} (hbase : base + 4 ≤ 4096)
    {off : Fin 2 → ℕ} {inb} (ho : off = ![base, 0]) {off' : Fin 3 → ℕ} {inb'} (ho' : off' = ![b, 0, 0])
    {X : S4096x4096.Idx → Elt F e} {fs : Buf (Elt F) (sm.view.loc (thr d i))} (hX : ∀ p, sm.view.read (Elt F) fs p = X p)
    (fd : Buf (Elt F) (m.view.loc (thr d i))) :
    Reads d i m b base X ((slot m off' inb').view.write (Elt F) fd ((rows4 sm off inb).view.read (Elt F) fs) Finset.univ) := by
  intro p hp
  have hr : m.view.read (Elt F) ((slot m off' inb').view.write (Elt F) fd ((rows4 sm off inb).view.read (Elt F) fs) Finset.univ) p
      = (rows4 sm off inb).view.read (Elt F) fs (ix2 (p 1) (p 2)) := by
    rw [View.read_apply, ← slot_emb m (inb := inb') ho' p hp, View.write_emb_of_mem _ _ (Finset.mem_univ _), cast_cast, cast_eq]
  rw [hr]
  show sm.view.read (Elt F) fs ((Rect.unit (s := S4096x4096) off S4x4096.size inb).emb (ix2 (p 1) (p 2) : S4x4096.Idx)) = _
  rw [hX]
  subst ho
  have h1 : (p 1).val < 4 := (p 1).isLt
  have h2 : (p 2).val < 4096 := (p 2).isLt
  congr 1
  funext a
  apply Fin.ext
  match a with
  | ⟨0, _⟩ => show base + 1 * (p 1).val = (base + (p 1).val) % 4096; omega
  | ⟨1, _⟩ => show 0 + 1 * (p 2).val = (p 2).val % 4096; omega

variable [FloatOps F]

/-- The transfer of four rows into a slot, issued. -/
theorem wp_issue {e : EltTy} {sm : Memref sig .scVector .hbm S4096x4096 e} {m : Memref sig .scVector .vmem S2x4x4096 e} {b base : ℕ} (hb : b < 2) (hbase : base + 4 ≤ 4096)
    {off : Fin 2 → ℕ} {inb} (ho : off = ![base, 0]) {off' : Fin 3 → ℕ} {inb'} (ho' : off' = ![b, 0, 0])
    {sem : DmaSem sig} {hs : (rows4 sm off inb).view.WordExact} {hd : (slot m off' inb').view.WordExact}
    {hsem : DmaTarget.Typed (nD := nD) (p := (thr d i).2) .hbm (.dma sem) (.here (slot m off' inb'))}
    {X : S4096x4096.Idx → Elt F e} {q : PosShare TreeShare} {fs : Buf (Elt F) (sm.view.loc (thr d i))} (hX : ∀ p, sm.view.read (Elt F) fs p = X p)
    {fd : Buf (Elt F) (m.view.loc (thr d i))} {α : Type} {k : PUnit → TProg F i α} {Q : α → sProp 𝕄} :
    iprop((sm.view.loc (thr d i) ↦{q} fs) ∗ (m.view.loc (thr d i) ↦[m.view.setOn (slotSet b)]{fullShare} fd) ∗ semVal (thr d i, .dma sem) 0)
      ⊢ iprop((Transfers.Flight countersEmb (thr d i) (.dma sem) (default : HIx 1) (crd m)
            iprop((∃ f, ⌜Reads d i m b base X f⌝ ∗ (m.view.loc (thr d i) ↦[m.view.setOn (slotSet b)]{fullShare} f)) ∗ (sm.view.loc (thr d i) ↦{q} fs))
          -∗ wp frame (wpE (defs₀ (F := F)) 𝒱₀ (thr d i) none) Set.univ (k ⟨⟩) Q)
        -∗ wp frame (wpE (defs₀ (F := F)) 𝒱₀ (thr d i) none) Set.univ
            (Prog.lift (.enqueueDma (rows4 sm off inb) (.here (slot m off' inb')) (.dma sem) hs hd hsem) >>= k) Q) := by
  iintro ⟨Hs, Hd, Hv⟩ Hk
  iapply (Transfers.wp_dmaFromWhole countersEmb 𝒱₀ (thr d i) none (src := rows4 sm off inb) (via := .same) (dst := slot m off' inb') (sm := .dma sem)
    (hsrc := hs) (hdst := hd) (hsem := hsem) (fs := fs) (Sd := m.view.setOn (slotSet b)) (fd := fd)
    (default : HIx 1) (crd m) rfl (View.dmaCredit_pos (slot m off' inb').view (by decide)) (slot_set m hb ho')) $$ [Hs Hd Hv]
  · isplitl [Hs]; · iexact Hs
    isplitl [Hd]; · iexact Hd
    iexact Hv
  iintro Hf
  iapply Hk
  iapply (Transfers.Flight_mono countersEmb (thr d i) (D := iprop((m.view.loc (thr d i) ↦[m.view.setOn (slotSet b)]{fullShare}
      ((slot m off' inb').view.write (Elt F) fd ((rows4 sm off inb).view.read (Elt F) fs) Finset.univ)) ∗ (sm.view.loc (thr d i) ↦{q} fs))) ?_) $$ Hf
  iintro ⟨Hd, Hs⟩
  isplitl [Hd]
  · iexists ((slot m off' inb').view.write (Elt F) fd ((rows4 sm off inb).view.read (Elt F) fs) Finset.univ)
    isplitr; · ipureintro; exact slot_reads d i sm m hbase ho ho' hX fd
    iexact Hd
  iexact Hs

/-- and awaited. -/
theorem wp_await {e : EltTy} {sm : Memref sig .scVector .hbm S4096x4096 e} {m : Memref sig .scVector .vmem S2x4x4096 e}
    {off : Fin 2 → ℕ} {inb} {off' : Fin 3 → ℕ} {inb'}
    {sem : DmaSem sig} {hs : (rows4 sm off inb).view.WordExact} {hd : (slot m off' inb').view.WordExact}
    {O : CellTallies nD τ sig (HIx 1)} {W : Waits sig (HIx 1)} {D : sProp 𝕄} {α : Type} {k : PUnit → TProg F i α} {Q : α → sProp 𝕄} :
    iprop(Transfers.Flight countersEmb (thr d i) (.dma sem) (default : HIx 1) (crd m) D ∗ owes (thr d i) O W
        ∗ Transfers.MayWaits (thr d i) (default : HIx 1) O)
      ⊢ iprop((iprop(D ∗ semVal (thr d i, .dma sem) 0 ∗ owes (thr d i) O (insert (SemLoc.dma sem, default) W))
            -∗ wp frame (wpE (defs₀ (F := F)) 𝒱₀ (thr d i) none) Set.univ (k ⟨⟩) Q)
        -∗ wp frame (wpE (defs₀ (F := F)) 𝒱₀ (thr d i) none) Set.univ
            (Prog.lift (.waitDma2 sem (rows4 sm off inb) (slot m off' inb') hs hd) >>= k) Q) := by
  iintro ⟨Hf, HO, Hmw⟩ Hk
  iapply (Transfers.wp_waitLocalO countersEmb 𝒱₀ (thr d i) none (srcw := rows4 sm off inb) (dstw := slot m off' inb') (hsrc := hs) (hdst := hd)
    (default : HIx 1) (N := crd m) rfl) $$ [Hf HO Hmw]
  · isplitl [Hf]; · iexact Hf
    isplitl [HO]; · iexact HO
    iapply (Transfers.MayWaits.elim (SemLoc.dma sem)) $$ Hmw
  iintro H
  iapply Hk
  iexact H

end

end Cert.Proof.Focal

end
-- ==== Proof.Tile.lean ====
/-
  The task of one vector subcore, at symbolic coordinates: the four chunks of its sixteen rows through the two slots, the
  sixteen rows' loops, and the write-out of its lane sums.
-/
module

public import proofs.«01_k».proof.Proof.Xfer

@[expose] public section

noncomputable section

namespace Cert.Proof.Focal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev xM : Memref sig .scVector .hbm S4096x4096 .f32 := Memref.whole main_arg0_scv
abbrev tM : Memref sig .scVector .hbm S4096x4096 .i32 := Memref.whole main_arg1_scv
abbrev oM : Memref sig .scVector .hbm S32x16 .f32 := Memref.whole main_v0_scv
abbrev xS : Memref sig .scVector .vmem S2x4x4096 .f32 := Memref.whole cc0_scratch0
abbrev tS : Memref sig .scVector .vmem S2x4x4096 .i32 := Memref.whole cc0_scratch1
abbrev oS : Memref sig .scVector .vmem S16 .f32 := Memref.whole cc0_scratch2

section

variable [FloatOps F] (d : Dev nD) (i : grid0.Coords)

/-- The task's number, and the first of its rows. -/
abbrev wid (i : grid0.Coords) : ℕ := 2 * (i 1).val + (i 0).val
abbrev row0 (i : grid0.Coords) : ℕ := 32 * (i 1).val + 16 * (i 0).val

/-- The first row of chunk `r`. -/
abbrev chunk (i : grid0.Coords) (r : Fin 4) : ℕ := 32 * (i 1).val + 16 * (i 0).val + 4 * r.val

omit [FloatOps F] in
theorem chunk_le (r : Fin 4) : chunk i r + 4 ≤ 4096 := by
  have h0 : (i 0).val < 2 := (i 0).isLt
  have h1 : (i 1).val < 16 := (i 1).isLt
  have := r.isLt
  show 32 * (i 1).val + 16 * (i 0).val + 4 * r.val + 4 ≤ 4096
  omega

/-- The lanes' row of the result. -/
def rowSet (r : ℕ) : Finset S32x16.Idx := Finset.univ.filter fun p => (p 0).val = r

abbrev orow (i : grid0.Coords) : Memref sig .scVector .hbm S16 .f32 :=
  (oM.slice (Rect.unit (s := S32x16) (k0_off18 i) S1x16.size (k0_off18_inb i)) (fun _ => rfl)).squeeze S16 squeezes_S1x16_S16

omit [FloatOps F] in
theorem slots_intro (xm : Memref sig .scVector .vmem S2x4x4096 .f32) (tm : Memref sig .scVector .vmem S2x4x4096 .i32) (b : ℕ)
    (xa : Buf (Elt F) (xm.view.loc (thr d i))) (ta : Buf (Elt F) (tm.view.loc (thr d i))) :
    iprop((xm.view.loc (thr d i) ↦[xm.view.setOn (slotSet b)]{fullShare} xa) ∗ (tm.view.loc (thr d i) ↦[tm.view.setOn (slotSet b)]{fullShare} ta))
      ⊢ (slots d i xm tm b xa ta : sProp 𝕄) := .rfl

omit [FloatOps F] in
theorem orow_idx (j : S16.Idx) : Shape.reshapeEquiv squeezes_S1x16_S16.numel_eq j = (ix2 0 (j 0) : S1x16.Idx) := by
  apply Shape.reshapeEquiv_eq_of_rowMajor
  rw [Shape.rowMajor_val_one, Shape.rowMajor_val_two]
  show 0 * 16 + (j 0).val = (j 0).val
  omega

omit [FloatOps F] in
theorem orow_emb (j : S16.Idx) : (((orow i).view.emb j : S32x16.Idx) 0).val = wid i ∧ (((orow i).view.emb j : S32x16.Idx) 1) = j 0 := by
  have h : ((orow i).view.emb j : S32x16.Idx) = (Rect.unit (s := S32x16) (k0_off18 i) S1x16.size (k0_off18_inb i)).emb (ix2 0 (j 0) : S1x16.Idx) := by
    show (Rect.unit (s := S32x16) (k0_off18 i) S1x16.size (k0_off18_inb i)).emb (Shape.reshapeEquiv _ j) = _
    rw [orow_idx]
  rw [h]
  have e := k0_off18_eq i
  constructor
  · show k0_off18 i 0 + 1 * 0 = wid i
    rw [e]; rfl
  · apply Fin.ext
    show k0_off18 i 1 + 1 * (j 0).val = (j 0).val
    rw [e]; show 0 + 1 * (j 0).val = _; omega

omit [FloatOps F] in
theorem orow_set : (orow i).view.set ⊆ rowSet (wid i) := by
  intro x hx
  obtain ⟨j, -, rfl⟩ := Finset.mem_map.mp hx
  exact Finset.mem_filter.mpr ⟨Finset.mem_univ _, (orow_emb i j).1⟩

omit [FloatOps F] in
theorem orow_cover (p : S32x16.Idx) (hp : p ∈ rowSet (wid i)) : ((orow i).view.emb (ix1 (p 1)) : S32x16.Idx) = p := by
  have h := orow_emb i (ix1 (p 1))
  have hp := (Finset.mem_filter.mp hp).2
  rw [eq_ix2 p, eq_ix2 ((orow i).view.emb (ix1 (p 1)) : S32x16.Idx)]
  congr 1
  · exact Fin.ext (h.1.trans hp.symm)
  · exact h.2

variable (fx : S4096x4096.Idx → F .f32) (fg : S4096x4096.Idx → BitVec 32)

/-- The row holds the task's lanes once they are written out. -/
theorem out_eq (o : Buf (Elt F) (oM.view.loc (thr d i))) (c : Buf (Elt F) (oS.view.loc (thr d i))) :
    ∀ p ∈ rowSet (wid i), (orow i).view.write (Elt F) o
      (oS.view.read (Elt F) ((oS.access (Rect.unit (s := S16) ![0] S16.size inb_S16_S16_0)).write (Elt F) c
        (k0_pay1 (tileOut fx fg (row0 i))) Finset.univ)) Finset.univ p = outV fx fg p := by
  intro p hp
  have hw : (p 0).val = wid i := (Finset.mem_filter.mp hp).2
  conv_lhs => rw [← orow_cover i p hp]
  rw [View.write_emb_of_mem _ _ (Finset.mem_univ _)]
  have e : (Rect.unit (s := S16) ![0] S16.size inb_S16_S16_0).emb (ix1 (p 1)) = (ix1 (p 1) : S16.Idx) := by
    funext a
    apply Fin.ext
    match a with
    | ⟨0, _⟩ => show 0 + 1 * (p 1).val = (p 1).val; omega
  have hr := View.read_slice_write_emb (v := oS.view) (Val := Elt F) (Rect.unit (s := S16) ![0] S16.size inb_S16_S16_0) c (k0_pay1 (tileOut fx fg (row0 i)))
    (x := ix1 (p 1)) (Finset.mem_univ _)
  rw [e] at hr
  refine (cast_eq _ _).trans (hr.trans ?_)
  rw [show k0_pay1 (tileOut fx fg (row0 i)) (ix1 (p 1)) = tileOut fx fg (row0 i) (ix1 (p 1)) from
    shapeCast_apply (tileOut fx fg (row0 i)) shapeCasts_S16_S16 (ix1 (p 1)) (ix1 (p 1)) rfl]
  show _ = tileOut fx fg (16 * (p 0).val) (ix1 (p 1))
  rw [hw, show 16 * wid i = row0 i by show 16 * (2 * (i 1).val + (i 0).val) = 32 * (i 1).val + 16 * (i 0).val; omega]

set_option maxHeartbeats 4000000 in
set_option maxRecDepth 65536 in
theorem body_core (q : PosShare TreeShare) (O : CellTallies nD τ sig (HIx 1)) (W : Waits sig (HIx 1))
    (a0 a1 : Buf (Elt F) (xS.view.loc (thr d i))) (b0 b1 : Buf (Elt F) (tS.view.loc (thr d i))) (c : Buf (Elt F) (oS.view.loc (thr d i)))
    (o : Buf (Elt F) (oM.view.loc (thr d i))) :
    iprop((Transfers.MayWaits (thr d i) (default : HIx 1) O : sProp 𝕄) ∗ owes (thr d i) O W
        ∗ ((xM.view.loc (thr d i) ↦{q.left} fx) ∗ (xM.view.loc (thr d i) ↦{q.right} fx))
        ∗ ((tM.view.loc (thr d i) ↦{q.left} fg) ∗ (tM.view.loc (thr d i) ↦{q.right} fg))
        ∗ ((xS.view.loc (thr d i) ↦[xS.view.setOn (slotSet 0)]{fullShare} a0) ∗ (xS.view.loc (thr d i) ↦[xS.view.setOn (slotSet 1)]{fullShare} a1))
        ∗ ((tS.view.loc (thr d i) ↦[tS.view.setOn (slotSet 0)]{fullShare} b0) ∗ (tS.view.loc (thr d i) ↦[tS.view.setOn (slotSet 1)]{fullShare} b1))
        ∗ (oS.view.loc (thr d i) ↦{fullShare} c)
        ∗ (oM.view.loc (thr d i) ↦[rowSet (wid i)]{fullShare} o)
        ∗ semVal (thr d i, .dma cc0_scratch3.sem) 0 ∗ semVal (thr d i, .dma cc0_scratch4.sem) 0
        ∗ semVal (thr d i, .dma cc0_scratch5.sem) 0 ∗ semVal (thr d i, .dma cc0_scratch6.sem) 0 ∗ semVal (thr d i, .dma cc0_scoped0.sem) 0)
      ⊢ wp frame (wpE (defs₀ (F := F)) 𝒱₀ (thr d i) none) Set.univ
          (cc0__sc_focal_body i xM (Memref.isWhole_whole _) tM (Memref.isWhole_whole _) oM (Memref.isWhole_whole _)
            xS (Memref.isWhole_whole _) tS (Memref.isWhole_whole _) oS (Memref.isWhole_whole _)
            cc0_scratch3 cc0_scratch4 cc0_scratch5 cc0_scratch6 cc0_scoped0)
          fun _ => iprop(
        ((xM.view.loc (thr d i) ↦{q.left} fx) ∗ (xM.view.loc (thr d i) ↦{q.right} fx))
        ∗ ((tM.view.loc (thr d i) ↦{q.left} fg) ∗ (tM.view.loc (thr d i) ↦{q.right} fg))
        ∗ ((∃ a0, xS.view.loc (thr d i) ↦[xS.view.setOn (slotSet 0)]{fullShare} a0) ∗ (∃ a1, xS.view.loc (thr d i) ↦[xS.view.setOn (slotSet 1)]{fullShare} a1))
        ∗ ((∃ b0, tS.view.loc (thr d i) ↦[tS.view.setOn (slotSet 0)]{fullShare} b0) ∗ (∃ b1, tS.view.loc (thr d i) ↦[tS.view.setOn (slotSet 1)]{fullShare} b1))
        ∗ (∃ c, oS.view.loc (thr d i) ↦{fullShare} c)
        ∗ (oM.view.loc (thr d i) ↦[rowSet (wid i)]{fullShare} outV fx fg)
        ∗ (semVal (thr d i, .dma cc0_scratch3.sem) 0 ∗ semVal (thr d i, .dma cc0_scratch4.sem) 0
        ∗ semVal (thr d i, .dma cc0_scratch5.sem) 0 ∗ semVal (thr d i, .dma cc0_scratch6.sem) 0 ∗ semVal (thr d i, .dma cc0_scoped0.sem) 0)
        ∗ ∃ W', ⌜∀ p ∈ W', p ∈ W ∨ p.2 = none⌝ ∗ owes (thr d i) O W') := by
  rw [cc0__sc_focal_body_eq_skeleton]; unfold cc0__sc_focal_body_skel
  iintro ⟨#Hmw, HO, ⟨Hx0, Hx1⟩, ⟨Ht0, Ht1⟩, ⟨Ha0, Ha1⟩, ⟨Hb0, Hb1⟩, Hc, Ho, H3, H4, H5, H6, H7⟩
  have hX : ∀ p, xM.view.read (Elt F) fx p = fx p := fun p => rfl
  have hG : ∀ p, tM.view.read (Elt F) fg p = fg p := fun p => rfl
  -- the first three transfers
  rw [wp_bind, k0_part65_eq_skeleton]; unfold k0_part65_skel; dsimp only
  iapply (wp_issue d i (b := 0) (by decide) (chunk_le i 0) (k0_off1_eq i 0) rfl hX) $$ [Hx0 Ha0 H3]
  · isplitl [Hx0]; · iexact Hx0
    isplitl [Ha0]; · iexact Ha0
    iexact H3
  iintro Hfx0
  iapply (wp_issue d i (b := 0) (by decide) (chunk_le i 0) (k0_off1_eq i 0) rfl hG) $$ [Ht0 Hb0 H5]
  · isplitl [Ht0]; · iexact Ht0
    isplitl [Hb0]; · iexact Hb0
    iexact H5
  iintro Hft0
  iapply (wp_issue d i (b := 1) (by decide) (chunk_le i 1) (k0_off1_eq i 1) rfl hX) $$ [Hx1 Ha1 H4]
  · isplitl [Hx1]; · iexact Hx1
    isplitl [Ha1]; · iexact Ha1
    iexact H4
  iintro Hfx1
  rw [wp_pure]; imodintro
  -- the fourth, and the first chunk's arrival
  rw [wp_bind, k0_part66_eq_skeleton]; unfold k0_part66_skel; dsimp only
  iapply (wp_issue d i (b := 1) (by decide) (chunk_le i 1) (k0_off1_eq i 1) rfl hG) $$ [Ht1 Hb1 H6]
  · isplitl [Ht1]; · iexact Ht1
    isplitl [Hb1]; · iexact Hb1
    iexact H6
  iintro Hft1
  iapply (wp_await d i) $$ [Hfx0 HO]
  · isplitl [Hfx0]; · iexact Hfx0
    isplitl [HO]; · iexact HO
    iexact Hmw
  iintro ⟨⟨⟨%xa, %hxa, Ha0⟩, Hx0⟩, H3, HO⟩
  iapply (wp_await d i) $$ [Hft0 HO]
  · isplitl [Hft0]; · iexact Hft0
    isplitl [HO]; · iexact HO
    iexact Hmw
  iintro ⟨⟨⟨%ta, %hta, Hb0⟩, Ht0⟩, H5, HO⟩
  ihave Hs := (slots_intro d i xS tS 0 xa ta) $$ [Ha0 Hb0]
  · isplitl [Ha0] <;> iassumption
  iapply (wp_tileRow d i hxa hta (l := k0_t1_loop) rfl k0_off2 k0_off2_inb rfl 0 k0_off2_eq (row0 i) 0 rfl) $$ Hs
  iintro Hs
  rw [wp_pure]; imodintro
  -- the first chunk's other rows; the third chunk's transfers
  rw [wp_bind, k0_part67_eq_skeleton]; unfold k0_part67_skel; dsimp only
  iapply (wp_tileRow d i hxa hta (l := k0_t2_loop) rfl k0_off3 k0_off3_inb rfl 1 k0_off3_eq (row0 i) 1 rfl) $$ Hs
  iintro Hs
  iapply (wp_tileRow d i hxa hta (l := k0_t3_loop) rfl k0_off4 k0_off4_inb rfl 2 k0_off4_eq (row0 i) 2 rfl) $$ Hs
  iintro Hs
  iapply (wp_tileRow d i hxa hta (l := k0_t4_loop) rfl k0_off5 k0_off5_inb rfl 3 k0_off5_eq (row0 i) 3 rfl) $$ Hs
  iintro Hs
  icases Hs with ⟨Ha0, Hb0⟩
  iapply (wp_issue d i (b := 0) (by decide) (chunk_le i 2) (k0_off1_eq i 2) rfl hX) $$ [Hx0 Ha0 H3]
  · isplitl [Hx0]; · iexact Hx0
    isplitl [Ha0]; · iexact Ha0
    iexact H3
  iintro Hfx0
  iapply (wp_issue d i (b := 0) (by decide) (chunk_le i 2) (k0_off1_eq i 2) rfl hG) $$ [Ht0 Hb0 H5]
  · isplitl [Ht0]; · iexact Ht0
    isplitl [Hb0]; · iexact Hb0
    iexact H5
  iintro Hft0
  iapply (wp_await d i) $$ [Hfx1 HO]
  · isplitl [Hfx1]; · iexact Hfx1
    isplitl [HO]; · iexact HO
    iexact Hmw
  iintro ⟨⟨⟨%xb, %hxb, Ha1⟩, Hx1⟩, H4, HO⟩
  rw [wp_pure]; imodintro
  -- the second chunk; the fourth chunk's transfers
  rw [wp_bind, k0_part68_eq_skeleton]; unfold k0_part68_skel; dsimp only
  iapply (wp_await d i) $$ [Hft1 HO]
  · isplitl [Hft1]; · iexact Hft1
    isplitl [HO]; · iexact HO
    iexact Hmw
  iintro ⟨⟨⟨%tb, %htb, Hb1⟩, Ht1⟩, H6, HO⟩
  ihave Hs := (slots_intro d i xS tS 1 xb tb) $$ [Ha1 Hb1]
  · isplitl [Ha1] <;> iassumption
  iapply (wp_tileRow d i hxb htb (l := k0_t5_loop) rfl k0_off6 k0_off6_inb rfl 0 k0_off6_eq (row0 i) 4 rfl) $$ Hs
  iintro Hs
  iapply (wp_tileRow d i hxb htb (l := k0_t6_loop) rfl k0_off7 k0_off7_inb rfl 1 k0_off7_eq (row0 i) 5 rfl) $$ Hs
  iintro Hs
  iapply (wp_tileRow d i hxb htb (l := k0_t7_loop) rfl k0_off8 k0_off8_inb rfl 2 k0_off8_eq (row0 i) 6 rfl) $$ Hs
  iintro Hs
  iapply (wp_tileRow d i hxb htb (l := k0_t8_loop) rfl k0_off9 k0_off9_inb rfl 3 k0_off9_eq (row0 i) 7 rfl) $$ Hs
  iintro Hs
  icases Hs with ⟨Ha1, Hb1⟩
  iapply (wp_issue d i (b := 1) (by decide) (chunk_le i 3) (k0_off1_eq i 3) rfl hX) $$ [Hx1 Ha1 H4]
  · isplitl [Hx1]; · iexact Hx1
    isplitl [Ha1]; · iexact Ha1
    iexact H4
  iintro Hfx1
  rw [wp_pure]; imodintro
  -- the third chunk
  rw [wp_bind, k0_part69_eq_skeleton]; unfold k0_part69_skel; dsimp only
  iapply (wp_issue d i (b := 1) (by decide) (chunk_le i 3) (k0_off1_eq i 3) rfl hG) $$ [Ht1 Hb1 H6]
  · isplitl [Ht1]; · iexact Ht1
    isplitl [Hb1]; · iexact Hb1
    iexact H6
  iintro Hft1
  iapply (wp_await d i) $$ [Hfx0 HO]
  · isplitl [Hfx0]; · iexact Hfx0
    isplitl [HO]; · iexact HO
    iexact Hmw
  iintro ⟨⟨⟨%xc, %hxc, Ha0⟩, Hx0⟩, H3, HO⟩
  iapply (wp_await d i) $$ [Hft0 HO]
  · isplitl [Hft0]; · iexact Hft0
    isplitl [HO]; · iexact HO
    iexact Hmw
  iintro ⟨⟨⟨%tc, %htc, Hb0⟩, Ht0⟩, H5, HO⟩
  ihave Hs := (slots_intro d i xS tS 0 xc tc) $$ [Ha0 Hb0]
  · isplitl [Ha0] <;> iassumption
  iapply (wp_tileRow d i hxc htc (l := k0_t9_loop) rfl k0_off10 k0_off10_inb rfl 0 k0_off10_eq (row0 i) 8 rfl) $$ Hs
  iintro Hs
  iapply (wp_tileRow d i hxc htc (l := k0_t10_loop) rfl k0_off11 k0_off11_inb rfl 1 k0_off11_eq (row0 i) 9 rfl) $$ Hs
  iintro Hs
  iapply (wp_tileRow d i hxc htc (l := k0_t11_loop) rfl k0_off12 k0_off12_inb rfl 2 k0_off12_eq (row0 i) 10 rfl) $$ Hs
  iintro Hs
  iapply (wp_tileRow d i hxc htc (l := k0_t12_loop) rfl k0_off13 k0_off13_inb rfl 3 k0_off13_eq (row0 i) 11 rfl) $$ Hs
  iintro Hs
  icases Hs with ⟨Ha0, Hb0⟩
  rw [wp_pure]; imodintro
  -- the fourth chunk, and the lanes' sum
  rw [wp_bind, k0_part70_eq_skeleton]; unfold k0_part70_skel; dsimp only
  iapply (wp_await d i) $$ [Hfx1 HO]
  · isplitl [Hfx1]; · iexact Hfx1
    isplitl [HO]; · iexact HO
    iexact Hmw
  iintro ⟨⟨⟨%xd, %hxd, Ha1⟩, Hx1⟩, H4, HO⟩
  iapply (wp_await d i) $$ [Hft1 HO]
  · isplitl [Hft1]; · iexact Hft1
    isplitl [HO]; · iexact HO
    iexact Hmw
  iintro ⟨⟨⟨%td, %htd, Hb1⟩, Ht1⟩, H6, HO⟩
  ihave Hs := (slots_intro d i xS tS 1 xd td) $$ [Ha1 Hb1]
  · isplitl [Ha1] <;> iassumption
  iapply (wp_tileRow d i hxd htd (l := k0_t13_loop) rfl k0_off14 k0_off14_inb rfl 0 k0_off14_eq (row0 i) 12 rfl) $$ Hs
  iintro Hs
  iapply (wp_tileRow d i hxd htd (l := k0_t14_loop) rfl k0_off15 k0_off15_inb rfl 1 k0_off15_eq (row0 i) 13 rfl) $$ Hs
  iintro Hs
  iapply (wp_tileRow d i hxd htd (l := k0_t15_loop) rfl k0_off16 k0_off16_inb rfl 2 k0_off16_eq (row0 i) 14 rfl) $$ Hs
  iintro Hs
  iapply (wp_tileRow d i hxd htd (l := k0_t16_loop) rfl k0_off17 k0_off17_inb rfl 3 k0_off17_eq (row0 i) 15 rfl) $$ Hs
  iintro Hs
  icases Hs with ⟨Ha1, Hb1⟩
  iapply (wp_load 𝒱₀ (thr d i) none Set.univ (m := oS) (S := Finset.univ) (Finset.subset_univ _)) $$ Hc
  iintro Hc
  simp only [Prog.bind]
  rw [wp_pure]; imodintro
  -- the write-out
  iapply (wp_store 𝒱₀ (thr d i) none Set.univ (m := oS) (r := Rect.unit (s := S16) ![0] S16.size inb_S16_S16_0) (f := c) (S := Finset.univ) (Finset.subset_univ _)) $$ Hc
  iintro Hc
  iapply (Transfers.wp_dmaFromWhole countersEmb 𝒱₀ (thr d i) none (src := oS) (via := .same) (dst := orow i) (sm := .dma cc0_scoped0.sem)
    (Sd := rowSet (wid i)) (fd := o) (default : HIx 1) (orow i).view.dmaCredit rfl (View.dmaCredit_pos (orow i).view (by decide)) (orow_set i)) $$ [Hc Ho H7]
  · isplitl [Hc]; · iexact Hc
    isplitl [Ho]; · iexact Ho
    iexact H7
  iintro Hfo
  iapply (Transfers.wp_waitLocalO countersEmb 𝒱₀ (thr d i) none (srcw := oS) (dstw := orow i) (default : HIx 1) (N := (orow i).view.dmaCredit) rfl) $$ [Hfo HO]
  · isplitl [Hfo]; · iexact Hfo
    isplitl [HO]; · iexact HO
    iapply (Transfers.MayWaits.elim (SemLoc.dma cc0_scoped0.sem)) $$ Hmw
  iintro ⟨⟨Ho, Hc⟩, H7, HO⟩
  simp only [Prog.bind]
  rw [wp_pure]; imodintro
  isplitl [Hx0 Hx1]; · isplitl [Hx0] <;> iassumption
  isplitl [Ht0 Ht1]; · isplitl [Ht0] <;> iassumption
  isplitl [Ha0 Ha1]
  · isplitl [Ha0]; · iexists _; iexact Ha0
    iexists _; iexact Ha1
  isplitl [Hb0 Hb1]
  · isplitl [Hb0]; · iexists _; iexact Hb0
    iexists _; iexact Hb1
  isplitl [Hc]; · iexists _; iexact Hc
  isplitl [Ho]
  · iapply (Entails.of_eq (pointsTo_congr (out_eq d i fx fg o c))); iexact Ho
  isplitl [H3 H4 H5 H6 H7]
  · isplitl [H3]; · iexact H3
    isplitl [H4]; · iexact H4
    isplitl [H5]; · iexact H5
    isplitl [H6]; · iexact H6
    iexact H7
  iexists _; isplitr
  swap; · iexact HO
  ipureintro; intro p hp
  simp only [Finset.mem_insert] at hp
  rcases hp with rfl | rfl | rfl | rfl | rfl | rfl | rfl | rfl | rfl | hp
  all_goals first | exact .inl hp | exact .inr rfl

end

end Cert.Proof.Focal

end
-- ==== Proof.Task.lean ====
/-
  What the SparseCore call's handshakes carry, each vector subcore's obligation from the body's run, and how a core's part
  is dealt to its sixteen subcores.
-/
module

public import proofs.«01_k».proof.Proof.Tile
public import Idealize.ShloMosaic.Lib.ShareLeaves

@[expose] public section

noncomputable section

namespace Cert.Proof.Focal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev mx (d : Dev nD) : S4096x4096.Idx → F .f32 := m (xLoc d)
abbrev mt (d : Dev nD) : S4096x4096.Idx → BitVec 32 := m (tLoc d)

/-- Core `c`'s half of an input. -/
def cq (c : ℕ) : PosShare TreeShare := if c = 0 then fullShare.left else fullShare.right

/-- The two inputs at a share. -/
abbrev ins (d : Dev nD) (q : PosShare TreeShare) : sProp 𝕄 := iprop((xLoc d ↦{q} m (xLoc d)) ∗ (tLoc d ↦{q} m (tLoc d)))
/-- Row `r` of the lanes. -/
abbrev oRow (d : Dev nD) (r : ℕ) (f : Buf (Elt F) (oLoc d)) : sProp 𝕄 := oLoc d ↦[rowSet r]{fullShare} f
/-- The rows of core `c`. -/
abbrev oRows (d : Dev nD) (c : ℕ) (f : Buf (Elt F) (oLoc d)) : sProp 𝕄 := bigSep Finset.univ fun i : Fin 16 => oRow d (2 * i.val + c) f
/-- The subcore's share of the inputs. -/
abbrev tq (c : ℕ) (i : Fin 16) : PosShare TreeShare := ShareLeaves.leaf 4 (cq c) i

/-- Each core takes half of the inputs and its sixteen rows of lanes; each subcore a leaf of the half and its row. The rows
    come back with every lane's sum in them. -/
def P : (K (F := F)).Pay (nD := nD) (Val := Elt F) (Name := ℕ) (U := UU) where
  st := fun q d c => match q with | 0 => iprop(ins m d (cq c.val) ∗ oRows d c.val (m (oLoc d)))
  dn := fun q d c => match q with | 0 => iprop(ins m d (cq c.val) ∗ oRows d c.val (outV (mx m d) (mt m d)))
  go := fun q d c i => match q with
    | 0 => iprop(ins m d (tq c.val (Fin.cast nSub_zero i)) ∗ oRow d (2 * (Fin.cast nSub_zero i).val + c.val) (m (oLoc d)))
  td := fun q d c i => match q with
    | 0 => iprop(ins m d (tq c.val (Fin.cast nSub_zero i)) ∗ oRow d (2 * (Fin.cast nSub_zero i).val + c.val) (outV (mx m d) (mt m d)))
  x := fun _ _ => iprop(emp)

instance P_storable : (P (F := F) m).IsStorable where
  st q d c := match q with
    | 0 => (inferInstance : BI.Storable (upEmb : UEmb _ 𝕄) iprop(ins m d (cq c.val) ∗ oRows d c.val (m (oLoc d))))
  dn q d c := match q with
    | 0 => (inferInstance : BI.Storable (upEmb : UEmb _ 𝕄) iprop(ins m d (cq c.val) ∗ oRows d c.val (outV (mx m d) (mt m d))))
  go q d c i := match q with
    | 0 => (inferInstance : BI.Storable (upEmb : UEmb _ 𝕄)
      iprop(ins m d (tq c.val (Fin.cast nSub_zero i)) ∗ oRow d (2 * (Fin.cast nSub_zero i).val + c.val) (m (oLoc d))))
  td q d c i := match q with
    | 0 => (inferInstance : BI.Storable (upEmb : UEmb _ 𝕄)
      iprop(ins m d (tq c.val (Fin.cast nSub_zero i)) ∗ oRow d (2 * (Fin.cast nSub_zero i).val + c.val) (outV (mx m d) (mt m d))))

/-! ## A subcore's obligation -/

section Task

variable (d : Dev nD) (i : grid0.Coords)

/-- The five semaphore cells of the body. -/
abbrev cells5 : Finset (GSem nD τ sig) :=
  {(thr d i, .dma cc0_scratch3.sem), (thr d i, .dma cc0_scratch4.sem), (thr d i, .dma cc0_scratch5.sem), (thr d i, .dma cc0_scratch6.sem),
    (thr d i, .dma cc0_scoped0.sem)}

omit [FloatOps F] in
theorem scoped_dma (s : SemLoc sig) (h : s.isScoped .scVector = true) : GSem.isScoped (thr d i, s) = true := h

omit [FloatOps F] in
theorem ownSems5 :
    (SparseCore.Cfg.ownSems0 (thr d i) : sProp 𝕄)
      = iprop((semVal (thr d i, .dma cc0_scratch3.sem) 0 ∗ semVal (thr d i, .dma cc0_scratch4.sem) 0 ∗ semVal (thr d i, .dma cc0_scratch5.sem) 0
          ∗ semVal (thr d i, .dma cc0_scratch6.sem) 0 ∗ semVal (thr d i, .dma cc0_scoped0.sem) 0)
          ∗ bigSep (SparseCore.Cfg.ownCells (thr d i) \ cells5 d i) fun g => semVal g 0) := by
  have hne : ∀ a b : SemLoc sig, a ≠ b → ((thr d i, a) : GSem nD τ sig) ≠ (thr d i, b) := fun a b h e => h (Prod.mk.inj e).2
  unfold SparseCore.Cfg.ownSems0
  rw [SparseCore.bigSep_sdiff_split' (t := cells5 d i) (by
    intro g hg
    simp only [Finset.mem_insert, Finset.mem_singleton] at hg
    rcases hg with rfl | rfl | rfl | rfl | rfl <;> exact (SparseCore.Cfg.mem_ownCells).mpr ⟨rfl, scoped_dma d i _ (by decide)⟩)]
  congr 1
  rw [SparseCore.bigSep_insert' (by
      simp only [Finset.mem_insert, Finset.mem_singleton, not_or]
      exact ⟨hne _ _ (by decide), hne _ _ (by decide), hne _ _ (by decide), hne _ _ (by decide)⟩),
    SparseCore.bigSep_insert' (by
      simp only [Finset.mem_insert, Finset.mem_singleton, not_or]
      exact ⟨hne _ _ (by decide), hne _ _ (by decide), hne _ _ (by decide)⟩),
    SparseCore.bigSep_insert' (by
      simp only [Finset.mem_insert, Finset.mem_singleton, not_or]
      exact ⟨hne _ _ (by decide), hne _ _ (by decide)⟩),
    SparseCore.bigSep_insert' (by simp only [Finset.mem_singleton]; exact hne _ _ (by decide)), bigSep_singleton]

/-- The three scratch buffers of the body. -/
abbrev refs3 : Finset (DevRef τ sig) :=
  {(thr d i).2.devRef cc0_scratch0, (thr d i).2.devRef cc0_scratch1, (thr d i).2.devRef cc0_scratch2}

omit [FloatOps F] in
theorem ownBufs3 :
    (SparseCore.Cfg.ownBufs (thr d i) : sProp 𝕄)
      = iprop(((∃ f, (thr d i).loc cc0_scratch0 ↦{fullShare} f) ∗ (∃ f, (thr d i).loc cc0_scratch1 ↦{fullShare} f) ∗ (∃ f, (thr d i).loc cc0_scratch2 ↦{fullShare} f))
          ∗ bigSep (SparseCore.Cfg.ownRefs (τ := τ) (thr d i).2 \ refs3 d i) fun b => iprop(∃ f, ((d, b) : Loc nD τ sig) ↦{fullShare} f)) := by
  have hne : ∀ a b : Ref sig .scVector, a ≠ b → (thr d i).2.devRef a ≠ (thr d i).2.devRef b := fun a b h e => absurd (Proc.devRef_injective _ e) h
  unfold SparseCore.Cfg.ownBufs
  rw [SparseCore.bigSep_sdiff_split' (t := refs3 d i) (by
    intro g hg
    simp only [Finset.mem_insert, Finset.mem_singleton] at hg
    rcases hg with rfl | rfl | rfl <;> exact SparseCore.Cfg.mem_ownRefs_of_owner (p := (thr d i).2) rfl)]
  congr 1
  rw [SparseCore.bigSep_insert' (by
      simp only [Finset.mem_insert, Finset.mem_singleton, not_or]
      exact ⟨hne _ _ (by decide), hne _ _ (by decide)⟩),
    SparseCore.bigSep_insert' (by simp only [Finset.mem_singleton]; exact hne _ _ (by decide)), bigSep_singleton]

omit [FloatOps F] in
theorem slot_union : slotSet 0 ∪ slotSet 1 = Finset.univ := by
  ext p
  have h : (p 0).val < 2 := (p 0).isLt
  simp only [Finset.mem_union, mem_slotSet, Finset.mem_univ, iff_true]
  omega

omit [FloatOps F] in
theorem slot_disjoint : Disjoint (slotSet 0) (slotSet 1) :=
  Finset.disjoint_left.mpr fun p h0 h1 => by rw [mem_slotSet] at h0 h1; omega

omit [FloatOps F] in
/-- A scratch buffer held whole is its two slots; and the two slots, at any contents, are the whole buffer. -/
theorem two_slots {e : EltTy} (s : Memref sig .scVector .vmem S2x4x4096 e) (hs : s.view.set = Finset.univ) (f : Buf (Elt F) (s.view.loc (thr d i))) :
    (s.view.loc (thr d i) ↦{fullShare} f : sProp 𝕄)
      ⊢ iprop((s.view.loc (thr d i) ↦[s.view.setOn (slotSet 0)]{fullShare} f) ∗ (s.view.loc (thr d i) ↦[s.view.setOn (slotSet 1)]{fullShare} f)) := by
  have h : (Finset.univ : Finset (Idx (s.view.loc (thr d i)))) = s.view.setOn (slotSet 0) ∪ s.view.setOn (slotSet 1) := by
    rw [← hs]; unfold View.setOn; rw [← Finset.map_union, slot_union]; rfl
  rw [h]
  exact (pointsTo_union ((Finset.disjoint_map _).mpr slot_disjoint)).1

omit [FloatOps F] in
theorem join_slots {e : EltTy} (s : Memref sig .scVector .vmem S2x4x4096 e) (hs : s.view.set = Finset.univ) :
    iprop((∃ f, s.view.loc (thr d i) ↦[s.view.setOn (slotSet 0)]{fullShare} f) ∗ (∃ f, s.view.loc (thr d i) ↦[s.view.setOn (slotSet 1)]{fullShare} f))
      ⊢ (iprop(∃ f, s.view.loc (thr d i) ↦{fullShare} f) : sProp 𝕄) := by
  have h : (Finset.univ : Finset (Idx (s.view.loc (thr d i)))) = s.view.setOn (slotSet 0) ∪ s.view.setOn (slotSet 1) := by
    rw [← hs]; unfold View.setOn; rw [← Finset.map_union, slot_union]; rfl
  rw [h]
  iintro ⟨⟨%f, Hf⟩, %g, Hg⟩
  iexists _
  iapply (pointsTo_join ((Finset.disjoint_map s.view.emb).mpr slot_disjoint))
  isplitl [Hf]; · iexact Hf
  iexact Hg

/-- The task, from its share of the inputs, its row of lanes and its own scratch. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (ins m d q ∗ oRow d (wid i) (m (oLoc d)))
        ∗ scopedBufs (thr d i) ∗ scopedSems0 (thr d i) ∗ owes (thr d i) O W)
      ⊢ wp frame (wpE (defs₀ (F := F)) 𝒱₀ (thr d i) none) Set.univ
          (cc0__sc_focal_body i xM (Memref.isWhole_whole _) tM (Memref.isWhole_whole _) oM (Memref.isWhole_whole _)
            xS (Memref.isWhole_whole _) tS (Memref.isWhole_whole _) oS (Memref.isWhole_whole _)
            cc0_scratch3 cc0_scratch4 cc0_scratch5 cc0_scratch6 cc0_scoped0)
          fun _ => iprop((ins m d q ∗ oRow d (wid i) (outV (mx m d) (mt m d)))
            ∗ scopedBufs (thr d i) ∗ scopedSems0 (thr d i) ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems5, ownBufs3]
  iintro ⟨#Hlv, -, ⟨⟨Hx, Ht⟩, Ho⟩, ⟨⟨⟨%a, Ha⟩, ⟨%b, Hb⟩, %c, Hc⟩, Hbufs⟩, ⟨⟨H3, H4, H5, H6, H7⟩, Hsems⟩, HO⟩
  ihave #Hmw := (show levAts (K (F := F)).L (K (F := F)).lev ⊢ Transfers.MayWaits (thr d i) (default : HIx 1) O from
    (K (F := F)).mayWaits_none (thr := thr d i) hO) $$ Hlv
  ihave Hx := (pointsTo_share (PosShare.mem_left_op_right q)).1 $$ Hx
  ihave Ht := (pointsTo_share (PosShare.mem_left_op_right q)).1 $$ Ht
  ihave Ha := (two_slots d i xS (View.set_whole _) a) $$ Ha
  ihave Hb := (two_slots d i tS (View.set_whole _) b) $$ Hb
  iapply (wp_wand_r frame (wpE (defs₀ (F := F)) 𝒱₀ (thr d i) none) Set.univ)
  isplitl [Hx Ht Ha Hb Hc Ho H3 H4 H5 H6 H7 HO]
  · iapply (body_core d i (mx m d) (mt m d) q O W a a b b c (m (oLoc d)))
    isplitr; · iexact Hmw
    isplitl [HO]; · iexact HO
    isplitl [Hx]; · iexact Hx
    isplitl [Ht]; · iexact Ht
    isplitl [Ha]; · iexact Ha
    isplitl [Hb]; · iexact Hb
    isplitl [Hc]; · iexact Hc
    isplitl [Ho]; · iexact Ho
    isplitl [H3]; · iexact H3
    isplitl [H4]; · iexact H4
    isplitl [H5]; · iexact H5
    isplitl [H6]; · iexact H6
    iexact H7
  iintro %_ ⟨Hx, Ht, Ha, Hb, Hc, Ho, Hs, HO⟩
  ihave Ha := (join_slots d i xS (View.set_whole _)) $$ Ha
  ihave Hb := (join_slots d i tS (View.set_whole _)) $$ Hb
  ihave Hx := (pointsTo_share (PosShare.mem_left_op_right q)).2 $$ Hx
  ihave Ht := (pointsTo_share (PosShare.mem_left_op_right q)).2 $$ Ht
  isplitl [Hx Ht Ho]
  · isplitl [Hx Ht]
    · isplitl [Hx]
      · iexact Hx
      iexact Ht
    iexact Ho
  isplitl [Ha Hb Hc Hbufs]
  · isplitl [Ha Hb Hc]
    · isplitl [Ha]; · iexact Ha
      isplitl [Hb]; · iexact Hb
      iexact Hc
    iexact Hbufs
  isplitl [Hs Hsems]
  · isplitl [Hs]; · iexact Hs
    iexact Hsems
  iexact HO

end Task

/-- A subcore's coordinates from its core and its number. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_focal_body (coordsV c s)
          xM (Memref.isWhole_whole _) tM (Memref.isWhole_whole _) oM (Memref.isWhole_whole _)
          xS (Memref.isWhole_whole _) tS (Memref.isWhole_whole _) oS (Memref.isWhole_whole _)
          cc0_scratch3 cc0_scratch4 cc0_scratch5 cc0_scratch6 cc0_scoped0) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (tq c.val (Fin.cast nSub_zero i)) O W hO).trans (wp_mono frame _ _ fun _ => obl_post)

/-! ## A core's part, dealt to its subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem ins_leaves (d : Dev nD) (q : PosShare TreeShare) :
    (ins m d q : sProp 𝕄) = bigSep Finset.univ fun i : Fin 16 => ins m d (ShareLeaves.leaf 4 q i) := by
  rw [bigSep_sep']
  exact congrArg₂ (fun a b : sProp 𝕄 => iprop(a ∗ b)) (ShareLeaves.pointsTo_leaves Finset.univ _ 4 q) (ShareLeaves.pointsTo_leaves Finset.univ _ 4 q)

theorem vecSplit : (K (F := F)).VecSplit' (P m) 0 := by
  intro d c
  show iprop(ins m d (cq c.val) ∗ oRows d c.val (m (oLoc d))) ⊢ |={Set.univ}=> iprop(
      (bigSep Finset.univ fun i : Fin ((K (F := F)).nSub 0) =>
        iprop(ins m d (tq c.val (Fin.cast nSub_zero i)) ∗ oRow d (2 * (Fin.cast nSub_zero i).val + c.val) (m (oLoc d))))
      ∗ ((bigSep Finset.univ fun i : Fin ((K (F := F)).nSub 0) =>
          iprop(ins m d (tq c.val (Fin.cast nSub_zero i)) ∗ oRow d (2 * (Fin.cast nSub_zero i).val + c.val) (outV (mx m d) (mt m d))))
          -∗ iprop(ins m d (cq c.val) ∗ oRows d c.val (outV (mx m d) (mt m d)))))
  rw [bigSep_tasks (F := F) (fun i => iprop(ins m d (tq c.val i) ∗ oRow d (2 * i.val + c.val) (m (oLoc d)))),
    bigSep_tasks (F := F) (fun i => iprop(ins m d (tq c.val i) ∗ oRow d (2 * i.val + c.val) (outV (mx m d) (mt m d)))),
    bigSep_sep' Finset.univ (fun i => ins m d (tq c.val i)) (fun i : Fin 16 => oRow d (2 * i.val + c.val) (m (oLoc d))),
    bigSep_sep' Finset.univ (fun i => ins m d (tq c.val i)) (fun i : Fin 16 => oRow d (2 * i.val + c.val) (outV (mx m d) (mt m d))), ← ins_leaves]
  iintro H; imodintro
  isplitl [H]; · iexact H
  iintro H; iexact H

end Cert.Proof.Focal

end
-- ==== Proof.Region.lean ====
/-
  The TensorCore's part: the sum its kernel accumulates over fourteen blocks of 256 rows, the kernel's run at one grid
  point, and the whole pipelined call as one step of the host program.
-/
module

public import proofs.«01_k».proof.Proof.Tile
public import Idealize.ShloMosaic.Lib.Pipeline.ValueKit.Geometry
public import Idealize.ShloMosaic.Lib.Pipeline.RegionsLoop

@[expose] public section

noncomputable section

namespace Cert.Proof.Focal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The values -/

/-- Block `n` of the TensorCore's 256-row blocks: it starts at row `512 + 256 n`. -/
def rowBlk {α : Type} (X : S4096x4096.Idx → α) (n : ℕ) : S256x4096.Idx → α :=
  fun p => gx X (512 + 256 * n + (p 0).val) (p 1).val

/-- What the accumulator holds after block `n`. -/
def tcAcc (X : S4096x4096.Idx → F .f32) (Tg : S4096x4096.Idx → BitVec 32) : ℕ → F .f32
  | 0 => k1_pay1 (F := F) (rowBlk X 0) (rowBlk Tg 0)
  | n + 1 => k1_pay2 (F := F) (rowBlk X (n + 1)) (rowBlk Tg (n + 1)) (tcAcc X Tg n)

/-! ## The kernel's run at one grid point -/

omit [FloatOps F] in
theorem block_idx (h) (x : S256x4096.Idx) : (Rect.unit (s := S256x4096) ![0, 0] S256x4096.size h).emb x = x := by
  funext a; apply Fin.ext; rw [Rect.emb_apply]; fin_cases a <;> simp

omit [FloatOps F] in
theorem cell_idx (h) (x : S1x1.Idx) : (Rect.unit (s := S1x1) ![0, 0] S1x1.size h).emb x = x := by
  funext a; apply Fin.ext; rw [Rect.emb_apply]; fin_cases a <;> simp

omit [FloatOps F] in
theorem cell_one (x y : S1x1.Idx) : x = y := by
  funext a; apply Fin.ext
  have hx : (x a).val < S1x1.size a := (x a).isLt
  have hy : (y a).val < S1x1.size a := (y a).isLt
  fin_cases a <;> (have hx' : _ < 1 := hx; have hy' : _ < 1 := hy; omega)

theorem conds (t : Fin cfg1.N) : (t.val = 0 → k1_cond1 (grid1.coords t) = 1#1 ∧ k1_cond2 (grid1.coords t) ≠ 1#1)
    ∧ (t.val ≠ 0 → k1_cond1 (grid1.coords t) ≠ 1#1 ∧ k1_cond2 (grid1.coords t) = 1#1) :=
  (by decide +kernel : ∀ t : Fin grid1.N, (t.val = 0 → k1_cond1 (grid1.coords t) = 1#1 ∧ k1_cond2 (grid1.coords t) ≠ 1#1)
    ∧ (t.val ≠ 0 → k1_cond1 (grid1.coords t) ≠ 1#1 ∧ k1_cond2 (grid1.coords t) = 1#1)) t

/-- From the three staging buffers the body runs to its end and leaves in the third the block's sum, added to what was
    there except at the first point. -/
theorem tc_body (d : Dev nD) (i : grid1.Coords) (M1 : Memref sig .tc .vmem S256x4096 .f32) (h1 : M1.IsWhole)
    (M2 : Memref sig .tc .vmem S256x4096 .i32) (h2 : M2.IsWhole) (M3 : Memref sig .tc .smem S1x1 .f32) (h3 : M3.IsWhole)
    (X1 : S256x4096.Idx → F .f32) (X2 : S256x4096.Idx → BitVec 32) (X3 Y : S1x1.Idx → F .f32)
    (hY : (k1_cond1 i = 1#1 ∧ k1_cond2 i ≠ 1#1 ∧ Y = fun _ => k1_pay1 (F := F) X1 X2)
      ∨ (k1_cond1 i ≠ 1#1 ∧ k1_cond2 i = 1#1 ∧ Y = fun _ => k1_pay2 (F := F) X1 X2 (X3 (ix2 0 0)))) (Q : PUnit → sProp 𝕄) :
    iprop(owns (SparseCore.T d) M1 fullShare X1 ∗ owns (SparseCore.T d) M2 fullShare X2 ∗ owns (SparseCore.T d) M3 fullShare X3
        ∗ (iprop(owns (SparseCore.T d) M1 fullShare X1 ∗ owns (SparseCore.T d) M2 fullShare X2 ∗ owns (SparseCore.T d) M3 fullShare Y) -∗ Q ⟨⟩))
      ⊢ wp frame (wpE (defs₀ (F := F)) 𝒱₀ (SparseCore.T d) none) Set.univ (cc1__tc_focal_body i M1 h1 M2 h2 M3 h3) Q := by
  rw [cc1__tc_focal_body_eq_skeleton]
  unfold cc1__tc_focal_body_skel owns smemLoad smemLoadElt
  iintro ⟨⟨%f1, %e1, H1⟩, ⟨%f2, %e2, H2⟩, ⟨%f3, %e3, H3⟩, Hk⟩
  have r1 : M1.view.readAt (Elt F) (Rect.unit (s := S256x4096) ![0, 0] S256x4096.size inb_S256x4096_S256x4096_0_0).toLoadRect f1 = X1 := by
    rw [← e1]; funext x; exact congrArg _ (block_idx _ x)
  have r2 : M2.view.readAt (Elt F) (Rect.unit (s := S256x4096) ![0, 0] S256x4096.size inb_S256x4096_S256x4096_0_0).toLoadRect f2 = X2 := by
    rw [← e2]; funext x; exact congrArg _ (block_idx _ x)
  simp only [Prog.bind, Prog.lift, Prog.bind_op, Prog.bind_ret, Prog.pure_eq_ret, Prog.bind_assoc]
  iapply (wp_load 𝒱₀ (SparseCore.T d) none Set.univ (m := M1) (f := f1) (View.setOn_subset_set _ _)) $$ H1
  iintro H1
  rw [r1]
  iapply (wp_load 𝒱₀ (SparseCore.T d) none Set.univ (m := M2) (f := f2) (View.setOn_subset_set _ _)) $$ H2
  iintro H2
  rw [r2]
  have r3 : ∀ (h : ∀ a, (![0, 0] : Fin S1x1.rank → ℕ) a + S1x1.size a ≤ S1x1.size a) (x : S1x1.Idx),
      M3.view.readAt (Elt F) (Rect.unit (s := S1x1) ![0, 0] S1x1.size h).toLoadRect f3 x = X3 (ix2 0 0) := fun h x => by
    rw [← e3]; exact congrArg (M3.view.read (Elt F) f3) (cell_one _ _)
  have w3 : ∀ (h : ∀ a, (![0, 0] : Fin S1x1.rank → ℕ) a + S1x1.size a ≤ S1x1.size a) (v : F .f32),
      M3.view.read (Elt F) ((M3.access (Rect.unit (s := S1x1) ![0, 0] S1x1.size h)).write (Elt F) f3 (fun _ => v) Finset.univ) = fun _ => v := fun h v => by
    funext x
    have := View.read_slice_write_emb (v := M3.view) (Rect.unit (s := S1x1) ![0, 0] S1x1.size h) f3 (fun _ => v) (Finset.mem_univ x)
    rwa [cell_idx] at this
  have s3 : (M3.access (Rect.unit (s := S1x1) ![0, 0] S1x1.size inb_S1x1_S1x1_0_0)).setOn Finset.univ ⊆ M3.view.set :=
    (View.setOn_subset_set _ _).trans (by rw [show (M3.access (Rect.unit (s := S1x1) ![0, 0] S1x1.size inb_S1x1_S1x1_0_0)).set = _ from View.set_slice _ _]; exact View.setOn_subset_set _ _)
  rcases hY with ⟨hc1, hc2, rfl⟩ | ⟨hc1, hc2, rfl⟩
  · rw [dif_pos hc1, dif_neg hc2]
    simp only [Prog.bind, Prog.lift, Prog.bind_op, Prog.bind_ret, Prog.pure_eq_ret, Prog.bind_assoc]
    iapply (wp_load 𝒱₀ (SparseCore.T d) none Set.univ (m := M3) (f := f3) (View.setOn_subset_set _ _)) $$ H3
    iintro H3
    iapply (wp_store 𝒱₀ (SparseCore.T d) none Set.univ (m := M3) (r := Rect.unit (s := S1x1) ![0, 0] S1x1.size inb_S1x1_S1x1_0_0) (f := f3) s3) $$ H3
    iintro H3
    rw [wp_ret]; imodintro
    iapply Hk
    isplitl [H1]; · iexists f1; isplitr; · ipureintro; exact e1
                    iexact H1
    isplitl [H2]; · iexists f2; isplitr; · ipureintro; exact e2
                    iexact H2
    iexists _; isplitr; swap; · iexact H3
    ipureintro; exact w3 _ _
  · rw [dif_neg hc1, dif_pos hc2]
    simp only [Prog.bind, Prog.lift, Prog.bind_op, Prog.bind_ret, Prog.pure_eq_ret, Prog.bind_assoc]
    iapply (wp_load 𝒱₀ (SparseCore.T d) none Set.univ (m := M3) (f := f3) (View.setOn_subset_set _ _)) $$ H3
    iintro H3
    iapply (wp_load 𝒱₀ (SparseCore.T d) none Set.univ (m := M3) (f := f3) (View.setOn_subset_set _ _)) $$ H3
    iintro H3
    rw [r3]
    iapply (wp_store 𝒱₀ (SparseCore.T d) none Set.univ (m := M3) (r := Rect.unit (s := S1x1) ![0, 0] S1x1.size inb_S1x1_S1x1_0_0) (f := f3) s3) $$ H3
    iintro H3
    rw [wp_ret]; imodintro
    iapply Hk
    isplitl [H1]; · iexists f1; isplitr; · ipureintro; exact e1
                    iexact H1
    isplitl [H2]; · iexists f2; isplitr; · ipureintro; exact e2
                    iexact H2
    iexists _; isplitr; swap; · iexact H3
    ipureintro; exact w3 _ _

/-! ## The pipeline's proof data, at an entry valuation -/

variable (V : (c : Dev nD) → (b : Ref sig .tc) → Buf (Elt F) ((c.tc : Thread nD τ).loc b)) (b₀ : ℕ)

/-- The two inputs at the valuation. -/
abbrev vx (c : Dev nD) : S4096x4096.Idx → F .f32 := V c main_arg0
abbrev vt (c : Dev nD) : S4096x4096.Idx → BitVec 32 := V c main_arg1

/-- The arrays at `V`; after the body at point `t` the inputs' buffers as fetched and the result's at the sum so far; nothing
    owed; the recorded waits at levels no higher than `b₀`. -/
def tcDat (c : Dev nD) : Pipeline.Dat τ (Elt F) (HIx 1) ℕ UU ℕ cfg1 c where
  A w := V c (Pipeline.arrRef spec1 w)
  after w t := match w with
    | ⟨0, _⟩ => rowBlk (vx V c) t.val
    | ⟨1, _⟩ => rowBlk (vt V c) t.val
    | ⟨2, _⟩ => fun _ => tcAcc (vx V c) (vt V c) t.val
  Φ _ := BI.emp
  q _ := fullShare
  owed _ := 0
  recorded _ := {p | (K (F := F)).lev (SparseCore.T c, p.1) p.2 ≤ b₀}

def adm (p : Fin 1) : (pcfgs (F := F) p).Adm := (cfgs p).toPCfg_adm

def tcDats : (p : Fin 1) → (c : Dev nD) → Pipeline.Dat τ (Elt F) (HIx 1) ℕ UU ℕ (Pipeline.pin (pcfgs (F := F)) adm p) c
  | ⟨0, _⟩ => fun c => tcDat V b₀ c

theorem tr0 (t : Fin cfg1.N) : win1_0.index t 0 = t.val + 2 ∧ win1_0.index t 1 = 0 :=
  (by decide +kernel : ∀ t : Fin grid1.N, win1_0.index t 0 = t.val + 2 ∧ win1_0.index t 1 = 0) t
theorem tr1 (t : Fin cfg1.N) : win1_1.index t 0 = t.val + 2 ∧ win1_1.index t 1 = 0 :=
  (by decide +kernel : ∀ t : Fin grid1.N, win1_1.index t 0 = t.val + 2 ∧ win1_1.index t 1 = 0) t

/-- The index of a block's element in the array, from its two coordinates. -/
theorem blk_at (j : S4096x4096.Idx) (x : S256x4096.Idx) (t : Fin grid1.N) (h0 : (j 0).val = (t.val + 2) * 256 + (x 0).val)
    (h1 : (j 1).val = 0 * 4096 + (x 1).val) :
    j = ix2 (Fin.ofNat 4096 (512 + 256 * t.val + (x 0).val)) (Fin.ofNat 4096 (x 1).val) := by
  have hj0 : (j 0).val < 4096 := (j 0).isLt
  have hj1 : (j 1).val < 4096 := (j 1).isLt
  rw [eq_ix2 j]
  congr 1
  · apply Fin.ext; show (j 0).val = (512 + 256 * t.val + (x 0).val) % 4096; omega
  · apply Fin.ext; show (j 1).val = (x 1).val % 4096; omega

theorem live (i : grid1.Coords) : cfg1.idle 2 i = false :=
  (by decide +kernel : ∀ i : grid1.Coords, idle1 2 i = false) i

theorem before_x (c : Dev nD) (t : Fin cfg1.N) (d) : (tcDat V b₀ c).before 0 t d = rowBlk (vx V c) t.val := by
  rw [Pipeline.Dat.before_fetched _ 0 t (fetch1_0 t)]
  unfold Pipeline.Dat.fetched
  funext x
  show V c main_arg0 ((win1_0.rect t).emb x) = _
  refine congrArg (V c main_arg0) (blk_at _ x t ?_ ?_)
  · rw [win1_0.rect_emb_val t x _ rfl, (tr0 t).1]; rfl
  · rw [win1_0.rect_emb_val t x _ rfl, (tr0 t).2]; rfl

theorem before_t (c : Dev nD) (t : Fin cfg1.N) (d) : (tcDat V b₀ c).before 1 t d = rowBlk (vt V c) t.val := by
  rw [Pipeline.Dat.before_fetched _ 1 t (fetch1_1 t)]
  unfold Pipeline.Dat.fetched
  funext x
  show V c main_arg1 ((win1_1.rect t).emb x) = _
  refine congrArg (V c main_arg1) (blk_at _ x t ?_ ?_)
  · rw [win1_1.rect_emb_val t x _ rfl, (tr1 t).1]; rfl
  · rw [win1_1.rect_emb_val t x _ rfl, (tr1 t).2]; rfl

theorem before_acc (c : Dev nD) (t : Fin cfg1.N) (ht : t.val ≠ 0) (d) :
    (tcDat V b₀ c).before 2 t d = fun _ => tcAcc (vx V c) (vt V c) (t.val - 1) := by
  rw [Pipeline.Dat.before_out_kept (tcDat V b₀ c) 2 rfl t ht (Bool.eq_false_iff.mpr fun h => by
      have h' := (flush1_2 _).mp h
      have := t.isLt
      have hN : cfg1.N = 14 := N_1
      simp only at h'
      omega) live (fun _ _ => rfl)]
  rfl

theorem acc_last (c : Dev nD) : (tcDat V b₀ c).arrAt 2 cfg1.N = fun _ => tcAcc (vx V c) (vt V c) 13 :=
  Pipeline.Dat.arrAt_eq_of_after_last _ 2 t1_13 (by decide +kernel) _ fun _ => rfl

theorem tc_obligation (c : Dev nD) : Pipeline.BodyObligation (tcDat V b₀ c) (defs₀ (F := F)) 𝒱₀ (none : HIx 1) Set.univ := fun t => by
  rw [bigSep_W1, bigSep_W1]
  rw [show (tcDat V b₀ c).Φ t.castSucc = BI.emp from rfl, show (tcDat V b₀ c).Φ t.succ = BI.emp from rfl,
    show (tcDat V b₀ c).owesAt none t.succ = (tcDat V b₀ c).owesAt none t.castSucc from rfl]
  rw [show cfg1.idle 2 (cfg1.grid.coords t) = false from live _]
  iintro ⟨-, Howes, ⟨%d0, H0⟩, ⟨%d1, H1⟩, ⟨%d2, H2⟩⟩
  rw [before_x, before_t]
  iapply (tc_body c (grid1.coords t) _ (hstage1_0 ((cfg1.slots t 0).cast nbuf1_0)) _ (hstage1_1 ((cfg1.slots t 1).cast nbuf1_1)) _
    (hstage1_2 ((cfg1.slots t 2).cast nbuf1_2)) (rowBlk (vx V c) t.val) (rowBlk (vt V c) t.val) ((tcDat V b₀ c).before 2 t d2)
    (fun _ => tcAcc (vx V c) (vt V c) t.val) (by
      by_cases ht : t.val = 0
      · obtain ⟨h1, h2⟩ := (conds t).1 ht
        exact .inl ⟨h1, h2, by rw [ht]; rfl⟩
      · obtain ⟨h1, h2⟩ := (conds t).2 ht
        refine .inr ⟨h1, h2, ?_⟩
        rw [before_acc V b₀ c t ht]
        obtain ⟨n, hn⟩ := Nat.exists_eq_succ_of_ne_zero ht
        rw [hn]; rfl))
  isplitl [H0]; · iexact H0
  isplitl [H1]; · iexact H1
  isplitl [H2]; · iexact H2
  iintro ⟨H0, H1, H2⟩
  isplitr; · iempintro
  isplitl [Howes]; · iexact Howes
  isplitl [H0]; · iexact H0
  isplitl [H1]; · iexact H1
  iexact H2

/-! ## The pipelined call as one step of the host program -/

variable (Vp : (c : Dev nD) → (b : Ref sig .tc) → Buf (Elt F) ((c.tc : Thread nD τ).loc b))

-- the library's entry and exit lemmas are stated over the pinned configuration
set_option backward.isDefEq.respectTransparency.types false in
/-- The call over the state "every unscoped buffer at `V`, nothing owed, waits at levels up to `b₀`": it leaves the same with
    the result's array holding the sum of the fourteen blocks. -/
def tcReg (hVp_out : ∀ c, Vp c main_v3 = fun _ => tcAcc (vx V c) (vt V c) 13)
    (hVp_ne : ∀ c (b : Ref sig .tc), b ≠ main_v3 → Vp c b = V c b) :
    Pipeline.RegionSeg (pcfgs (F := F)) adm (tcDats V b₀) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (tc_obligation V b₀ c).loose
  hwaits := Pipeline.hwaits_of_owed_zero _ _ _ _ (K (F := F)).L (K (F := F)).lev 0 fun _ _ => rfl
  pre c := iprop(unscopedBufs c (V c) ∗ ∃ W, ⌜(K (F := F)).WBelow (SparseCore.T c) W b₀⌝ ∗ owes (SparseCore.T c) (0 : CellTallies nD τ sig (HIx 1)) W)
  post c := iprop(unscopedBufs c (Vp c) ∗ ∃ W, ⌜(K (F := F)).WBelow (SparseCore.T c) W b₀⌝ ∗ owes (SparseCore.T c) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (tcDats V b₀) launch1.win launch1.arr_whole c
      ((tcDats V b₀ 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (tcDats V b₀ 0 c).Φ 0 = BI.emp from rfl]
    iintro -; iempintro
  hout c := by
    rw [Pipeline.ownSems0_none, show (tcDats V b₀ 0 c).Φ (Fin.last _) = BI.emp from rfl]
    iintro -
    isplitr; · iempintro
    isplitr; · iempintro
    rw [show (Pipeline.scopedRest (Pipeline.pin (pcfgs (F := F)) adm 0).spec c : sProp 𝕄) = BI.emp from scopedRest1_eq c]
    iempintro
  hexit c := by
    have hjoin := Pipeline.unscopedBufs_of_arrays (p := 0) (pcfgs (F := F)) adm (Ix := HIx 1) (Name := ℕ) (U := UU) (Lvl := ℕ) launch1.win launch1.arr_whole c
      (tcDats V b₀) ((tcDats V b₀ 0 c).share_full fun _ => rfl) (V c) (Vp c) ((tcDats V b₀ 0 c).arrAt · cfg1.N)
      (fun w => by
        fin_cases w
        · exact ((tcDats V b₀ 0 c).arrAt_in 0 rfl _).trans (hVp_ne c main_arg0 (by decide)).symm
        · exact ((tcDats V b₀ 0 c).arrAt_in 1 rfl _).trans (hVp_ne c main_arg1 (by decide)).symm
        · exact (acc_last V b₀ c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Nat.zero_le _

end Cert.Proof.Focal

end
-- ==== Proof.Run.lean ====
/-
  The host program: the SparseCore call, the sum of its lanes, the TensorCore call, the mean; and the whole run, with the
  program's result in closed form.
-/
module

public import proofs.«01_k».proof.Proof.Task
public import proofs.«01_k».proof.Proof.Region
public import Idealize.ShloMosaic.Lib.Pipeline.ValueKit.Geometry
public import Idealize.ShloMosaic.Lib.Pipeline.RegionsLoop

@[expose] public section

noncomputable section

namespace Cert.Proof.Focal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The launch's ghost state -/

/-- The pipeline's rounds: the middle factor. -/
def EP : Emb UP 𝕄 := ((Emb.inl : Emb UP (UP × Counters)).trans (Emb.inr : Emb (UP × Counters) UU)).trans
  (uEmb (nD := nD) (τ := τ) (sig := sig) (Ix := HIx 1) (Val := Elt F) (Name := ℕ) (U := UU) (Lvl := ℕ)).toEmb

instance EP_lands : (EP (F := F)).LandsIn (upEmb : UEmb _ 𝕄) := by unfold EP; infer_instance

abbrev pinned := Pipeline.pin (pcfgs (F := F)) adm

/-- The launch element: the handshakes' rounds and the pipeline's. -/
def u₀ : UU := (initOf (K (F := F)).hsCells (K (F := F)).hsToks,
  (initOf (Pipeline.cells (nD := nD) (pinned (F := F)) cellOf_inj) (Pipeline.launchToks (nD := nD) (pinned (F := F)) cellOf_inj), 1))

/-- A device's share of the pipeline's rounds. -/
abbrev G (d : Dev nD) : sProp 𝕄 := iprop(Pipeline.cellsGhost (pinned (F := F)) EP 0 d ∗ Pipeline.toksInit (pinned (F := F)) EP 0 d)

omit [FloatOps F] in
theorem own_pair (b : UP) : (BI.own ((embR : Emb (UP × Counters) 𝕄) (b, 1)) : sProp 𝕄) ⊢ BI.own (EP (F := F) b) := by
  have h := own_pair_emb (M' := 𝕄) (embR : Emb (UP × Counters) 𝕄) b (1 : Counters)
  exact h.trans sep_elim_left

theorem deal_one : (iprop((bigSep Finset.univ fun c : Dev nD => bigSep Finset.univ fun p : Fin 1 => Pipeline.cellsGhost (pinned (F := F)) EP p c)
      ∗ bigSep Finset.univ fun c : Dev nD => bigSep Finset.univ fun p : Fin 1 => Pipeline.toksInit (pinned (F := F)) EP p c) : sProp 𝕄)
    = bigSep Finset.univ fun d : Dev nD => G (F := F) d := by
  rw [bigSep_sep' Finset.univ]
  exact congrArg₂ (fun a b : sProp 𝕄 => iprop(a ∗ b)) (bigSep_congr fun _ _ => bigSep_univ_of_subsingleton (0 : Fin 1))
    (bigSep_congr fun _ _ => bigSep_univ_of_subsingleton (0 : Fin 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HP := (own_pair (F := F) _) $$ HR
  ihave HG := (Pipeline.fund_ghost (pinned (F := F)) (EP (F := F)) cellOf_inj) $$ HP
  imod HG
  icases HG with ⟨HC, HT⟩
  imodintro
  isplitl [HH]; · iexact HH
  isplitl [HC HT]
  · iapply (Entails.of_eq (deal_one (F := F)))
    isplitl [HC] <;> iassumption
  rw [show (bigSep Finset.univ fun thr : Thread nD τ => bigSep Finset.univ fun q : Fin 1 => (P (F := F) m).x q thr) = iprop(emp) from
    (bigSep_congr fun _ _ => bigSep_univ_of_subsingleton (0 : Fin 1)).trans (bigSep_emp_const _)]
  iempintro

/-! ## The operands of the SparseCore call, dealt to its two cores -/

omit [FloatOps F] in
theorem rowSet_disjoint : ((Finset.univ : Finset (Fin 2 × Fin 16)) : Set (Fin 2 × Fin 16)).PairwiseDisjoint fun p => rowSet (2 * p.2.val + p.1.val) := by
  intro p _ q _ hpq
  refine Finset.disjoint_left.mpr fun x hx hy => hpq ?_
  have h1 := (Finset.mem_filter.mp hx).2; have h2 := (Finset.mem_filter.mp hy).2
  have := p.1.isLt; have := q.1.isLt
  exact Prod.ext (Fin.ext (by omega)) (Fin.ext (by omega))

omit [FloatOps F] in
theorem rowSet_cover : (Finset.univ : Finset (Fin 2 × Fin 16)).biUnion (fun p => rowSet (2 * p.2.val + p.1.val)) = Finset.univ := by
  ext x
  have hx : (x 0).val < 32 := (x 0).isLt
  simp only [Finset.mem_biUnion, Finset.mem_univ, true_and, iff_true]
  refine ⟨(⟨(x 0).val % 2, by omega⟩, ⟨(x 0).val / 2, by omega⟩), Finset.mem_filter.mpr ⟨Finset.mem_univ _, ?_⟩⟩
  show (x 0).val = 2 * ((x 0).val / 2) + (x 0).val % 2
  omega

omit [FloatOps F] in
theorem oPts_rows (d : Dev nD) (f : Buf (Elt F) (oLoc d)) :
    (oLoc d ↦{fullShare} f : sProp 𝕄) = iprop(oRows d 0 f ∗ oRows d 1 f) := by
  rw [show (oLoc d ↦{fullShare} f : sProp 𝕄)
      = bigSep Finset.univ fun p : Fin 2 × Fin 16 => oLoc d ↦[rowSet (2 * p.2.val + p.1.val)]{fullShare} f by
    rw [← pointsTo_biUnion Finset.univ (ℓ := oLoc d) (fun p : Fin 2 × Fin 16 => rowSet (2 * p.2.val + p.1.val)) rowSet_disjoint, rowSet_cover],
    bigSep_univ_prod, bigSep_fin_two]
  rfl

omit [FloatOps F] in
theorem ins_halves (d : Dev nD) :
    (iprop((xLoc d ↦{fullShare} m (xLoc d)) ∗ (tLoc d ↦{fullShare} m (tLoc d))) : sProp 𝕄) = iprop(ins m d (cq 0) ∗ ins m d (cq 1)) := by
  have hx : (xLoc d ↦{fullShare} m (xLoc d) : sProp 𝕄) ⊣⊢ _ := pointsTo_share (PosShare.mem_left_op_right fullShare)
  have ht : (tLoc d ↦{fullShare} m (tLoc d) : sProp 𝕄) ⊣⊢ _ := pointsTo_share (PosShare.mem_left_op_right fullShare)
  rw [show cq 0 = fullShare.left from if_pos rfl, show cq 1 = fullShare.right from if_neg (by decide), Entails.antisymm hx.1 hx.2,
    Entails.antisymm ht.1 ht.2]
  refine Entails.antisymm ?_ ?_
  · show (_ : sProp 𝕄) ⊢ _
    iintro ⟨⟨H1, H2⟩, H3, H4⟩
    isplitl [H1 H3]
    · isplitl [H1] <;> iassumption
    · isplitl [H2] <;> iassumption
  · show (_ : sProp 𝕄) ⊢ _
    iintro ⟨⟨H1, H2⟩, H3, H4⟩
    isplitl [H1 H3]
    · isplitl [H1] <;> iassumption
    · isplitl [H2] <;> iassumption

/-! ## The buffers' values through the host program -/

/-- The result of the program: the lanes' sum, the TensorCore's sum, and their mean. -/
def result (X : S4096x4096.Idx → F .f32) (Tg : S4096x4096.Idx → BitVec 32) : S_.Idx → F .f32 :=
  Host.divf
    (addf (addf (constant S_ .f32 0x00000000#32) (Host.reduceAdd (outV X Tg) (constant S_ .f32 0x00000000#32) reducesTo_S32x16_S_d0_1 h_S_))
      (fun _ => tcAcc X Tg 13))
    (constant S_ .f32 0x4B800000#32)

/-- The operations between the two calls. -/
def ops₁ : List (HloOp τ sig (Elt F)) :=
  [StableHlo.nullary main_cst (constant S_ .f32 0x00000000#32),
    StableHlo.binary main_v0 main_cst main_v1 ((fun x v => Host.reduceAdd x v reducesTo_S32x16_S_d0_1 h_S_) :
      (⟨S32x16, .f32⟩ : BufTy).Contents (Elt F) → (⟨S_, .f32⟩ : BufTy).Contents (Elt F) → (⟨S_, .f32⟩ : BufTy).Contents (Elt F)),
    StableHlo.nullary main_cst_0 (constant S_ .f32 0x00000000#32),
    StableHlo.binary main_cst_0 main_v1 main_v2 (addf :
      (⟨S_, .f32⟩ : BufTy).Contents (Elt F) → (⟨S_, .f32⟩ : BufTy).Contents (Elt F) → (⟨S_, .f32⟩ : BufTy).Contents (Elt F))]

/-- The operations after them. -/
def ops₂ : List (HloOp τ sig (Elt F)) :=
  [StableHlo.reshape main_v3 main_v4 (rfl : (.f32 : EltTy) = .f32) shapeCasts_S1x1_S_,
    StableHlo.binary main_v2 main_v4 main_v5 (addf :
      (⟨S_, .f32⟩ : BufTy).Contents (Elt F) → (⟨S_, .f32⟩ : BufTy).Contents (Elt F) → (⟨S_, .f32⟩ : BufTy).Contents (Elt F)),
    StableHlo.nullary main_cst_1 (constant S_ .f32 0x4B800000#32),
    StableHlo.binary main_v5 main_cst_1 main_v6 (Host.divf :
      (⟨S_, .f32⟩ : BufTy).Contents (Elt F) → (⟨S_, .f32⟩ : BufTy).Contents (Elt F) → (⟨S_, .f32⟩ : BufTy).Contents (Elt F))]

theorem ops₁_sub : ∀ op ∈ ops₁ (F := F), op.bufs ⊆ StableHlo.tcRefs τ sig := by
  simp [ops₁]
theorem ops₂_sub : ∀ op ∈ ops₂ (F := F), op.bufs ⊆ StableHlo.tcRefs τ sig := by
  simp [ops₂]
theorem ops₁_fresh : ∀ op ∈ ops₁ (F := F), op.fresh = ∅ := by
  simp only [ops₁, List.forall_mem_cons, List.not_mem_nil, false_implies, implies_true, and_true]
  exact ⟨rfl, rfl, rfl, rfl⟩
theorem ops₂_fresh : ∀ op ∈ ops₂ (F := F), op.fresh = ∅ := by
  simp only [ops₂, List.forall_mem_cons, List.not_mem_nil, false_implies, implies_true, and_true]
  exact ⟨rfl, rfl, rfl, rfl⟩

abbrev V₀ (d : Dev nD) : Valuation τ sig (Elt F) := StableHlo.launchContents m d
/-- After the SparseCore call. -/
def V₁ (d : Dev nD) : Valuation τ sig (Elt F) := Function.update (V₀ m d) (Proc.devRef .tc main_v0) (outV (mx m d) (mt m d))
/-- At the TensorCore call. -/
def V₂ (d : Dev nD) : Valuation τ sig (Elt F) := StableHlo.after ops₁ (V₁ m d)
/-- After it. -/
def V₃ (d : Dev nD) : Valuation τ sig (Elt F) := Function.update (V₂ m d) (Proc.devRef .tc main_v3) (fun _ => tcAcc (mx m d) (mt m d) 13)
/-- At the return. -/
def V₄ (d : Dev nD) : Valuation τ sig (Elt F) := StableHlo.after ops₂ (V₃ m d)

theorem V₁_ne (d : Dev nD) (b : Ref sig .tc) (h : b ≠ main_v0) : V₁ m d (Proc.devRef .tc b) = m (d, Proc.devRef .tc b) :=
  Function.update_of_ne (fun e => h (Proc.devRef_injective _ e)) _ _
theorem V₃_ne (d : Dev nD) (b : Ref sig .tc) (h : b ≠ main_v3) : V₃ m d (Proc.devRef .tc b) = V₂ m d (Proc.devRef .tc b) :=
  Function.update_of_ne (fun e => h (Proc.devRef_injective _ e)) _ _

theorem V₂_arg0 (d : Dev nD) : V₂ m d (Proc.devRef .tc main_arg0) = mx m d := by
  unfold V₂ ops₁
  simp (disch := decide) only [StableHlo.after_cons, StableHlo.after_nil, StableHlo.nullary_result_ne', StableHlo.binary_result_ne']
  exact V₁_ne m d main_arg0 (by decide)
theorem V₂_arg1 (d : Dev nD) : V₂ m d (Proc.devRef .tc main_arg1) = mt m d := by
  unfold V₂ ops₁
  simp (disch := decide) only [StableHlo.after_cons, StableHlo.after_nil, StableHlo.nullary_result_ne', StableHlo.binary_result_ne']
  exact V₁_ne m d main_arg1 (by decide)
theorem V₂_v2 (d : Dev nD) : V₂ m d (Proc.devRef .tc main_v2)
    = addf (constant S_ .f32 0x00000000#32) (Host.reduceAdd (outV (mx m d) (mt m d)) (constant S_ .f32 0x00000000#32) reducesTo_S32x16_S_d0_1 h_S_) := by
  unfold V₂ ops₁
  simp (disch := decide) only [StableHlo.after_cons, StableHlo.after_nil, StableHlo.nullary_result_ne', StableHlo.binary_result_ne',
    StableHlo.nullary_result', StableHlo.binary_result']
  rw [show V₁ m d (Proc.devRef .tc main_v0) = outV (mx m d) (mt m d) from Function.update_self _ _ _]
theorem V₄_arg0 (d : Dev nD) : V₄ m d (Proc.devRef .tc main_arg0) = mx m d := by
  unfold V₄ ops₂
  simp (disch := decide) only [StableHlo.after_cons, StableHlo.after_nil, StableHlo.nullary_result_ne', StableHlo.binary_result_ne', StableHlo.reshape_result_ne']
  rw [V₃_ne m d main_arg0 (by decide), V₂_arg0]
theorem V₄_arg1 (d : Dev nD) : V₄ m d (Proc.devRef .tc main_arg1) = mt m d := by
  unfold V₄ ops₂
  simp (disch := decide) only [StableHlo.after_cons, StableHlo.after_nil, StableHlo.nullary_result_ne', StableHlo.binary_result_ne', StableHlo.reshape_result_ne']
  rw [V₃_ne m d main_arg1 (by decide), V₂_arg1]
theorem V₄_v6 (d : Dev nD) : V₄ m d (Proc.devRef .tc main_v6) = result (mx m d) (mt m d) := by
  unfold V₄ ops₂
  simp (disch := decide) only [StableHlo.after_cons, StableHlo.after_nil, StableHlo.nullary_result_ne', StableHlo.binary_result_ne', StableHlo.reshape_result_ne',
    StableHlo.nullary_result', StableHlo.binary_result', StableHlo.reshape_result']
  rw [V₃_ne m d main_v2 (by decide), V₂_v2, show V₃ m d (Proc.devRef .tc main_v3) = fun _ => tcAcc (mx m d) (mt m d) 13 from Function.update_self _ _ _]
  rfl

/-- The TensorCore call, at the values it is reached with. -/
def reg (b₀ : ℕ) : Pipeline.RegionSeg (pcfgs (F := F)) adm (tcDats (fun c b => V₂ m c (Proc.devRef .tc b)) b₀) (none : HIx 1) defs₀ 𝒱₀
    (K (F := F)).L (K (F := F)).lev 0 :=
  tcReg (fun c b => V₂ m c (Proc.devRef .tc b)) b₀ (fun c b => V₃ m c (Proc.devRef .tc b))
    (fun c => by
      show V₃ m c (Proc.devRef .tc main_v3) = fun _ => tcAcc (V₂ m c (Proc.devRef .tc main_arg0)) (V₂ m c (Proc.devRef .tc main_arg1)) 13
      rw [V₂_arg0, V₂_arg1]; exact Function.update_self _ _ _)
    (fun c b h => V₃_ne m c b h)

/-- The host's state at the TensorCore call, the recorded waits bounded by `b₀`. -/
abbrev hostSt (b₀ : ℕ) (W : Dev nD → Valuation τ sig (Elt F)) (d : Dev nD) : sProp 𝕄 :=
  iprop(StableHlo.held (SparseCore.T d) (Pipeline.ucRefs τ sig) (W d)
    ∗ ∃ w, ⌜(K (F := F)).WBelow (SparseCore.T d) w b₀⌝ ∗ owes (SparseCore.T d) (0 : CellTallies nD τ sig (HIx 1)) w)

theorem reg_pre (b₀ : ℕ) (d : Dev nD) : (reg m b₀).pre d = hostSt b₀ (V₂ m) d :=
  congrArg (fun a : sProp 𝕄 => iprop(a ∗ ∃ w, ⌜(K (F := F)).WBelow (SparseCore.T d) w b₀⌝ ∗ owes (SparseCore.T d) (0 : CellTallies nD τ sig (HIx 1)) w))
    (Pipeline.unscopedBufs_held d (V₂ m d))
theorem reg_post (b₀ : ℕ) (d : Dev nD) : (reg m b₀).post d = hostSt b₀ (V₃ m) d :=
  congrArg (fun a : sProp 𝕄 => iprop(a ∗ ∃ w, ⌜(K (F := F)).WBelow (SparseCore.T d) w b₀⌝ ∗ owes (SparseCore.T d) (0 : CellTallies nD τ sig (HIx 1)) w))
    (Pipeline.unscopedBufs_held d (V₃ m d))

/-! ## The unscoped buffers around the SparseCore call -/

/-- What the SparseCore call does not touch. -/
abbrev others : Finset (DevRef τ sig) := Pipeline.ucRefs τ sig \ {Proc.devRef .tc main_arg0, Proc.devRef .tc main_arg1, Proc.devRef .tc main_v0}

theorem held_split3 (d : Dev nD) (W : Valuation τ sig (Elt F)) :
    (StableHlo.held (SparseCore.T d) (Pipeline.ucRefs τ sig) W : sProp 𝕄)
      = iprop(((xLoc d ↦{fullShare} W (Proc.devRef .tc main_arg0)) ∗ (tLoc d ↦{fullShare} W (Proc.devRef .tc main_arg1)) ∗ oLoc d ↦{fullShare} W (Proc.devRef .tc main_v0))
          ∗ StableHlo.held (SparseCore.T d) others W) := by
  unfold StableHlo.held
  rw [SparseCore.bigSep_sdiff_split' (t := {Proc.devRef .tc main_arg0, Proc.devRef .tc main_arg1, Proc.devRef .tc main_v0}) (by decide),
    SparseCore.bigSep_insert' (by decide), SparseCore.bigSep_insert' (by decide), bigSep_singleton]

theorem held_others (d : Dev nD) : (StableHlo.held (SparseCore.T d) others (V₁ m d) : sProp 𝕄) = StableHlo.held (SparseCore.T d) others (V₀ m d) :=
  bigSep_congr fun b hb => by
    rw [show V₁ m d b = V₀ m d b from Function.update_of_ne (fun e => (Finset.mem_sdiff.mp hb).2 (by subst e; decide)) _ _]

theorem st0_eq (d : Dev nD) : (bigSep Finset.univ fun c : Fin ((K (F := F)).nCore 0) => (P m).st 0 d c)
    = iprop((ins m d (cq 0) ∗ oRows d 0 (m (oLoc d))) ∗ ins m d (cq 1) ∗ oRows d 1 (m (oLoc d))) :=
  bigSep_fin_two fun c : Fin 2 => iprop(ins m d (cq c.val) ∗ oRows d c.val (m (oLoc d)))
theorem dn0_eq (d : Dev nD) : (bigSep Finset.univ fun c : Fin ((K (F := F)).nCore 0) => (P m).dn 0 d c)
    = iprop((ins m d (cq 0) ∗ oRows d 0 (outV (mx m d) (mt m d))) ∗ ins m d (cq 1) ∗ oRows d 1 (outV (mx m d) (mt m d))) :=
  bigSep_fin_two fun c : Fin 2 => iprop(ins m d (cq c.val) ∗ oRows d c.val (outV (mx m d) (mt m d)))

/-- The whole operands are what the two cores take, and hand back. -/
theorem whole_deal (d : Dev nD) (f : Buf (Elt F) (oLoc d)) :
    (iprop((xLoc d ↦{fullShare} m (xLoc d)) ∗ (tLoc d ↦{fullShare} m (tLoc d)) ∗ oLoc d ↦{fullShare} f) : sProp 𝕄)
      = iprop((ins m d (cq 0) ∗ oRows d 0 f) ∗ ins m d (cq 1) ∗ oRows d 1 f) := by
  have e := ins_halves (F := F) m d
  refine Entails.antisymm ?_ ?_
  · show (_ : sProp 𝕄) ⊢ _
    rw [oPts_rows]
    iintro ⟨Hx, Ht, H0, H1⟩
    ihave H := (Entails.of_eq e) $$ [Hx Ht]
    · isplitl [Hx] <;> iassumption
    icases H with ⟨HA, HB⟩
    isplitl [HA H0]
    · isplitl [HA] <;> iassumption
    · isplitl [HB] <;> iassumption
  · show (_ : sProp 𝕄) ⊢ _
    rw [oPts_rows]
    iintro ⟨⟨HA, H0⟩, HB, H1⟩
    ihave H := (Entails.of_eq e.symm) $$ [HA HB]
    · isplitl [HA] <;> iassumption
    icases H with ⟨Hx, Ht⟩
    isplitl [Hx]; · iexact Hx
    isplitl [Ht]; · iexact Ht
    isplitl [H0] <;> iassumption

/-! ## @main on the TensorCore -/

abbrev rLoc (d : Dev nD) : Loc nD τ sig := (SparseCore.T d).loc main_v6

/-- What @main leaves: the arguments as they were, and the result. -/
abbrev FIN (d : Dev nD) : sProp 𝕄 :=
  iprop((xLoc d ↦{fullShare} m (xLoc d)) ∗ (tLoc d ↦{fullShare} m (tLoc d)) ∗ rLoc d ↦{fullShare} result (mx m d) (mt m d))

theorem fin_of_held (d : Dev nD) : (StableHlo.held (SparseCore.T d) (Pipeline.ucRefs τ sig) (V₄ m d) : sProp 𝕄) ⊢ FIN m d := by
  unfold StableHlo.held
  rw [SparseCore.bigSep_sdiff_split' (t := {Proc.devRef .tc main_arg0, Proc.devRef .tc main_arg1, Proc.devRef .tc main_v6}) (by decide),
    SparseCore.bigSep_insert' (by decide), SparseCore.bigSep_insert' (by decide), bigSep_singleton, V₄_arg0, V₄_arg1, V₄_v6]
  exact sep_elim_left

/-- @main, its host operations in two lines. -/
theorem main_eq (d : Dev nD) : main (F := F) d = (sc (F := F)).run d 0 >>= fun _ => StableHlo.seq ops₁ >>= fun _ =>
    Prog.lift (.customCall (SparseCore.inner (Pipeline.entry 0)) ()) >>= fun _ => StableHlo.seq ops₂ >>= fun _ => pure ⟨⟩ := by
  rfl

set_option backward.isDefEq.respectTransparency.types false in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (V₀ m d) from
    Pipeline.unscopedBufs_held d (V₀ m d), held_split3]
  rw [main_eq, wp_bind]
  iintro ⟨#Hctx, Hst, ⟨Hb, ⟨Hops, Hoth⟩, Hts, -⟩, HG⟩
  ihave Hlev := ((K (F := F)).ctx_levAts (P := P m) (EH := EH) κ) $$ Hctx
  iapply ((K (F := F)).wp_run (D (F := F)) 𝒱 (EH := EH) (P := P m) κ d 0) $$ [Hst Hops Hoth Hb Hts HG Hlev]
  isplitr; · iexact Hctx
  isplitl [Hst]; · iexact Hst
  isplitl [Hops]
  · iapply (Entails.of_eq ((whole_deal m d (m (oLoc d))).trans (st0_eq m d).symm)); iexact Hops
  iintro ⟨Hst, Hdn⟩
  ihave Hops := (Entails.of_eq ((dn0_eq m d).trans (whole_deal m d (outV (mx m d) (mt m d))).symm)) $$ Hdn
  ihave Hoth := (Entails.of_eq (held_others m d).symm) $$ Hoth
  ihave Hh := (Entails.of_eq (held_split3 d (V₁ m d)).symm) $$ [Hops Hoth]
  · isplitl [Hops]
    · rw [V₁_ne m d main_arg0 (by decide), V₁_ne m d main_arg1 (by decide),
        show V₁ m d (Proc.devRef .tc main_v0) = outV (mx m d) (mt m d) from Function.update_self _ _ _]
      iexact Hops
    iexact Hoth
  iapply (StableHlo.wp_seq 𝒱 none Set.univ d (Pipeline.ucRefs τ sig) _ ops₁ (fun op h => Pipeline.sub_ucRefs op (ops₁_sub op h)) ops₁_fresh (V₁ m d)) $$ [Hb Hh]
  · isplitl [Hb] <;> iassumption
  iintro ⟨Hb, Hh⟩
  rw [wp_bind]
  unfold SparseCore.Cfg.tcSt
  rw [(K (F := F)).Otc_end d (n := (0 : Fin 1).val + 1) le_rfl, (K (F := F)).Otc_end d (n := 1) le_rfl]
  icases Hst with ⟨HO, Hrest⟩
  iapply ((K (F := F)).wp_liftProg (D (F := F)) 𝒱 (SparseCore.T d) Set.univ none (.op (.customCall (Pipeline.entry (0 : Fin 1)) ()) .ret) _)
  iapply (Pipeline.RegionSeg.wp (pcfgs (F := F)) adm _ (none : HIx 1) cellOf_inj (EP (F := F)) defs₀ 𝒱₀ (K (F := F)).L (K (F := F)).lev
    (reg m (8 * SparseCore.Cfg.Blocks.fst (Q := 1) (N := 1) 1)) d none (fun _ h => nomatch h) .ret _)
  icases HG with ⟨HC, HT⟩
  isplitl [Hrest Hts]
  · iintro ⟨Hb, Hpost⟩
    rw [wp_ret]; imodintro
    ihave H := (Entails.of_eq (reg_post m _ d)) $$ Hpost
    icases H with ⟨Hh, HO⟩
    iapply (StableHlo.wp_seq 𝒱 none Set.univ d (Pipeline.ucRefs τ sig) _ ops₂ (fun op h => Pipeline.sub_ucRefs op (ops₂_sub op h)) ops₂_fresh (V₃ m d)) $$ [Hb Hh]
    · isplitl [Hb] <;> iassumption
    iintro ⟨Hb, Hh⟩
    rw [wp_pure]; imodintro
    isplitl [HO Hrest]
    · isplitl [HO]; · iexact HO
      iexact Hrest
    isplitl [Hh]
    · iapply (fin_of_held m d); iexact Hh
    isplitl [Hb] <;> iassumption
  isplitl [Hb]; · iexact Hb
  isplitl [HO Hh]
  · iapply (Entails.of_eq (reg_pre m _ d).symm)
    isplitl [Hh]; · iexact Hh
    iexact HO
  isplitl [Hlev]; · iexact Hlev
  isplitl [HC] <;> iassumption

def fq (d : Dev nD) (s' : Phys nD τ sig (Elt F)) : Prop :=
  s'.mem.mem (xLoc d) = m (xLoc d) ∧ s'.mem.mem (tLoc d) = m (tLoc d) ∧ s'.mem.mem (rLoc d) = result (mx m d) (mt m d)

theorem read_back (ℓ : Loc nD τ sig) (f : Buf (Elt F) ℓ) (s' : Phys nD τ sig (Elt F)) (R : sProp 𝕄) (Q : Prop)
    (h : s'.mem.mem ℓ = f → (iprop(R ∗ SI s') ⊢ (⌜Q⌝ : sProp 𝕄))) : iprop(((ℓ ↦{fullShare} f) ∗ R) ∗ SI s') ⊢ (⌜Q⌝ : sProp 𝕄) := by
  iintro ⟨⟨Hf, HR⟩, HSI⟩
  ihave H := (persistent_entails_right (SI_pointsTo_agree (st := s') (ℓ := ℓ) (I := Finset.univ) (q := fullShare) (f := f))) $$ [HSI Hf]
  · isplitl [HSI] <;> iassumption
  icases H with ⟨%e, HSI, -⟩
  iapply (h (funext fun i => e i (Finset.mem_univ i)))
  isplitl [HR] <;> iassumption

theorem hfin (d : Dev nD) (s' : Phys nD τ sig (Elt F)) : iprop(FIN m d ∗ SI s') ⊢ (⌜fq m d s'⌝ : sProp 𝕄) := by
  refine read_back _ _ s' _ _ fun h1 => read_back _ _ s' _ _ fun h2 => ?_
  iintro ⟨Hr, HSI⟩
  ihave H := (SI_pointsTo_agree (st := s') (ℓ := rLoc d) (I := Finset.univ) (q := fullShare) (f := result (mx m d) (mt m d))) $$ [HSI Hr]
  · isplitl [HSI] <;> iassumption
  icases H with %h3
  ipureintro; exact ⟨h1, h2, funext fun i => h3 i (Finset.mem_univ i)⟩

/-! ## The program's run -/

def QC : PUnit × MemSt nD τ sig (Elt F) → Prop := fun r =>
  (∀ d : Dev nD, r.2.mem (xLoc d) = m (xLoc d) ∧ r.2.mem (tLoc d) = m (tLoc d) ∧ r.2.mem (rLoc d) = result (mx m d) (mt m d)) ∧ r.2.sem = fun _ => 0

/-- Every run of the program ends, the arguments as they were, the result in closed form, every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Focal

end
-- ==== Proof.Value.lean ====
/-
  The equation of values: over the extended reals, with every input finite, the program's result is the reference's. Both
  are the sum over the whole array of the negated focal terms, divided by the number of elements; the program takes that
  sum lane by lane, row by row and block by block.
-/
module

public import proofs.«01_k».proof.Proof.Run
public import proofs.«01_k».proof.Proof.Gen.ReferenceIdeal.Run
public import Idealize.ShloMosaic.Lib.IdealHost
public import Idealize.ShloMosaic.Lib.ReduceAll
public import Idealize.ShloMosaic.Lib.ValueIdx
public import proofs.«01_k».proof.Pre_finite

@[expose] public section

noncomputable section

namespace Cert.Proof.Focal

open Cert.KernelIdeal Cert.KernelIdeal.Gen
open Idealize.ShloMosaic Idealize.ShloMosaic.ValueIdx
open scoped BigOperators

/-! ## Sums over blocks of consecutive naturals -/

/-- A sum over `a * b` naturals, block by block. -/
theorem sum_blocks (b : ℕ) (f : ℕ → EReal) : ∀ a : ℕ, ∑ x ∈ Finset.range (a * b), f x = ∑ i ∈ Finset.range a, ∑ j ∈ Finset.range b, f (b * i + j)
  | 0 => by simp
  | a + 1 => by
    rw [Nat.add_mul, one_mul, Finset.sum_range_add, sum_blocks b f a, Finset.sum_range_succ, Nat.mul_comm a b]

/-- A finite sum of values none of which is `⊤` is not `⊤`, and negates term by term. -/
theorem neg_sum {ι : Type} [DecidableEq ι] (s : Finset ι) (f : ι → EReal) (hf : ∀ i ∈ s, f i ≠ ⊤) :
    (∑ i ∈ s, f i ≠ ⊤) ∧ -(∑ i ∈ s, f i) = ∑ i ∈ s, -f i := by
  induction s using Finset.induction_on with
  | empty => simp
  | insert a s ha ih =>
    have h1 := hf a (Finset.mem_insert_self _ _)
    obtain ⟨h2, h3⟩ := ih fun i hi => hf i (Finset.mem_insert_of_mem hi)
    rw [Finset.sum_insert ha, Finset.sum_insert ha]
    exact ⟨EReal.add_ne_top h1 h2, by rw [EReal.neg_add (Or.inr h2) (Or.inl h1), sub_eq_add_neg, h3]⟩

/-! ## One element's term -/

/-- A finite extended real. -/
abbrev Fin' (x : EReal) : Prop := x ≠ ⊤ ∧ x ≠ ⊥

theorem select_cases {α : Type} (b : BitVec 1) (x y : α) : Scalar.select b x y = x ∨ Scalar.select b x y = y := by
  unfold Scalar.select; split <;> simp

/-- The probability a target reads off a finite input is a real. -/
theorem prob_real (x : EReal) (hx : Fin' x) (b : BitVec 1) : ∃ r : ℝ, Scalar.select b x ((1 : EReal) - x) = (r : EReal) := by
  lift x to ℝ using hx
  rcases select_cases b (x : EReal) ((1 : EReal) - x) with h | h
  · exact ⟨x, h⟩
  · exact ⟨1 - x, by rw [h]; norm_cast⟩

/-- The focal term at the extended reals. -/
theorem ft_def (x : EReal) (t : BitVec 32) : ft (F := Ideal) x t
    = ((1 : EReal) - Scalar.select (IntOp.cmpi .ne t 0#32) x ((1 : EReal) - x)) * ((1 : EReal) - Scalar.select (IntOp.cmpi .ne t 0#32) x ((1 : EReal) - x))
      * Ideal.log (Scalar.select (IntOp.cmpi .ne t 0#32) x ((1 : EReal) - x)) := by
  unfold ft
  simp only [Scalar.ofBits, Ideal.ofBits_def, Ideal.ofBits_one_f32, Ideal.subf_def, Ideal.mulf_def, Ideal.log_def]

theorem ft_ne_top (x : EReal) (hx : Fin' x) (t : BitVec 32) : ft (F := Ideal) x t ≠ ⊤ := by
  rw [ft_def]
  obtain ⟨r, hr⟩ := prob_real x hx (IntOp.cmpi .ne t 0#32)
  rw [hr, Ideal.log_coe]
  split
  · next h =>
    have hq : (1 : EReal) - (r : EReal) = ((1 - r : ℝ) : EReal) := by norm_cast
    rw [hq, ← EReal.coe_mul, EReal.coe_mul_bot_of_pos (by nlinarith)]
    exact bot_ne_top
  · have hq : (1 : EReal) - (r : EReal) = ((1 - r : ℝ) : EReal) := by norm_cast
    rw [hq, ← EReal.coe_mul, ← EReal.coe_mul]; exact EReal.coe_ne_top _

/-- The reference's term is the negated focal term. -/
theorem ref_term (x : EReal) (hx : Fin' x) (t : BitVec 32) :
    (-1 : EReal) * Ideal.pow ((1 : EReal) - Scalar.select (IntOp.cmpi .ne t 0#32) x ((1 : EReal) - x)) 2
      * Ideal.log (Scalar.select (IntOp.cmpi .ne t 0#32) x ((1 : EReal) - x)) = -ft (F := Ideal) x t := by
  rw [ft_def]
  obtain ⟨r, hr⟩ := prob_real x hx (IntOp.cmpi .ne t 0#32)
  rw [hr]
  have hq : (1 : EReal) - (r : EReal) = ((1 - r : ℝ) : EReal) := by norm_cast
  have h2 : (2 : EReal) = ((2 : ℝ) : EReal) := by norm_cast
  rw [hq, h2, Ideal.pow_coe_coe, show Real.rpow (1 - r) 2 = (1 - r) * (1 - r) from (Real.rpow_two _).trans (sq _), EReal.coe_mul,
    neg_one_mul, EReal.neg_mul]

/-! ## The SparseCore's sums -/

variable (X : S4096x4096.Idx → EReal) (Tg : S4096x4096.Idx → BitVec 32)

/-- The negated term at row `r`, column `c`. -/
def nt (r c : ℕ) : EReal := -ft (F := Ideal) (gx X r c) (gx Tg r c)

theorem accTo_sum (row u : ℕ) (a : FVec Ideal S16 .f32) (l : S16.Idx) :
    ∀ n, accTo (F := Ideal) X Tg row u a n l = a l + ∑ k ∈ Finset.range n, nt X Tg row (128 * k + 16 * u + (l 0).val)
  | 0 => by simp [accTo]
  | n + 1 => by
    rw [Finset.sum_range_succ, ← add_assoc, ← accTo_sum row u a l n]
    rfl

theorem tileAcc_sum (base : ℕ) (u : Fin 8) (l : S16.Idx) :
    ∀ n, tileAcc (F := Ideal) X Tg base n u l
      = ∑ j ∈ Finset.range n, ∑ k ∈ Finset.range 32, nt X Tg (base + j) (128 * k + 16 * u.val + (l 0).val)
  | 0 => by
    show Ideal.ofBits .f32 0x00000000#32 = _
    simp
  | n + 1 => by
    rw [Finset.sum_range_succ, ← tileAcc_sum base u l n]
    exact accTo_sum X Tg (base + n) u.val (tileAcc (F := Ideal) X Tg base n u) l 32

theorem tileOut_sum (base : ℕ) (l : S16.Idx) :
    tileOut (F := Ideal) X Tg base l = ∑ u : Fin 8, tileAcc (F := Ideal) X Tg base 16 u l := by
  rw [Fin.sum_univ_eight]; rfl

/-- A row's 4096 terms, as the lane sees them: trip, accumulator, lane. -/
theorem row_sum (f : ℕ → EReal) :
    ∑ l ∈ Finset.range 16, ∑ u ∈ Finset.range 8, ∑ k ∈ Finset.range 32, f (128 * k + 16 * u + l) = ∑ c ∈ Finset.range 4096, f c := by
  rw [show 4096 = 32 * 128 from rfl, sum_blocks 128 f 32]
  have e : ∀ k, ∑ j ∈ Finset.range 128, f (128 * k + j) = ∑ u ∈ Finset.range 8, ∑ l ∈ Finset.range 16, f (128 * k + 16 * u + l) := fun k => by
    rw [show 128 = 8 * 16 from rfl, sum_blocks 16 (fun j => f (8 * 16 * k + j)) 8]
    simp only [Nat.add_assoc]
  simp only [e]
  rw [Finset.sum_comm]
  refine Eq.trans ?_ Finset.sum_comm
  exact Finset.sum_congr rfl fun u _ => Finset.sum_comm

/-- The lanes' sum is the sum over the first 512 rows. -/
theorem outV_sum : ∑ p : S32x16.Idx, outV (F := Ideal) X Tg p = ∑ r ∈ Finset.range 512, ∑ c ∈ Finset.range 4096, nt X Tg r c := by
  have h1 : ∀ (w : Fin 32) (l : Fin 16), outV (F := Ideal) X Tg (ix2 w l)
      = ∑ u ∈ Finset.range 8, ∑ j ∈ Finset.range 16, ∑ k ∈ Finset.range 32, nt X Tg (16 * w.val + j) (128 * k + 16 * u + l.val) := fun w l => by
    rw [Finset.sum_range]
    show tileOut (F := Ideal) X Tg (16 * w.val) (ix1 l) = _
    rw [tileOut_sum]
    exact Finset.sum_congr rfl fun u _ => tileAcc_sum X Tg _ u (ix1 l) 16
  refine (sum_idx2 (n0 := 32) (n1 := 16) (outV (F := Ideal) X Tg)).trans ?_
  simp only [h1]
  rw [show 512 = 32 * 16 from rfl, sum_blocks 16 _ 32, ← Finset.sum_range (fun w => ∑ l : Fin 16, ∑ u ∈ Finset.range 8, ∑ j ∈ Finset.range 16,
    ∑ k ∈ Finset.range 32, nt X Tg (16 * w + j) (128 * k + 16 * u + l.val))]
  refine Finset.sum_congr rfl fun w _ => ?_
  rw [← Finset.sum_range (fun l => ∑ u ∈ Finset.range 8, ∑ j ∈ Finset.range 16, ∑ k ∈ Finset.range 32, nt X Tg (16 * w + j) (128 * k + 16 * u + l))]
  simp only [← row_sum (nt X Tg (16 * w + _))]
  rw [Finset.sum_comm (s := Finset.range 16) (t := Finset.range 16)]
  refine Finset.sum_congr rfl fun l _ => Finset.sum_comm

/-! ## The TensorCore's sums -/

/-- A reshaped array's sum is the array's. -/
theorem sum_shapeCast {s t : Shape} (x : s.Idx → EReal) (h : s.ShapeCasts t) : ∑ j : t.Idx, shapeCast t x h j = ∑ i : s.Idx, x i :=
  Equiv.sum_comp (Shape.reshapeEquiv h) x

/-- An array's sum, by row and column, over the naturals. -/
theorem sum_rows {n0 n1 : ℕ} (f : ℕ → ℕ → EReal) :
    ∑ p : Shape.Idx ⟨2, ![n0, n1]⟩, f (p 0).val (p 1).val = ∑ r ∈ Finset.range n0, ∑ c ∈ Finset.range n1, f r c := by
  rw [sum_idx2, Finset.sum_range]
  exact Finset.sum_congr rfl fun r _ => (Finset.sum_range (f r.val)).symm

/-- A block's payload is zero less the sum of the block's focal terms. -/
theorem pay_eq (x : S256x4096.Idx → EReal) (t : S256x4096.Idx → BitVec 32) :
    k1_pay1 (F := Ideal) x t = 0 - ∑ p : S256x4096.Idx, ft (F := Ideal) (x p) (t p) := by
  have e : ∀ j, multiReduction (F := Ideal) .add [1, 2] S1 (shapeCast S1x256x4096 (fun p => ft (F := Ideal) (x p) (t p)) shapeCasts_S256x4096_S1x256x4096)
      0x00000000#32 reduces_S1x256x4096_S1 (.inl rfl) rfl j = ∑ p : S256x4096.Idx, ft (F := Ideal) (x p) (t p) := fun j =>
    (Ideal.multiReduction_add_total _ _ reduces_S1x256x4096_S1 (by decide) (.inl rfl) rfl j).trans (sum_shapeCast _ _)
  rw [← e (Shape.reshapeEquiv shapeCasts_S1_S1x1x1 fun a => ⟨![0, 0, 0] a, inpos_S1x1x1_p0_0_0 a⟩), ← Ideal.ofBits_zero_f32]
  rfl

variable {X Tg}

theorem gx_fin (hX : ∀ i, Fin' (X i)) (r c : ℕ) : Fin' (gx X r c) := hX _

/-- A block's payload is the sum of its negated terms. -/
theorem pay_sum (hX : ∀ i, Fin' (X i)) (n : ℕ) :
    k1_pay1 (F := Ideal) (rowBlk X n) (rowBlk Tg n)
      = ∑ i ∈ Finset.range 256, ∑ c ∈ Finset.range 4096, nt X Tg (512 + 256 * n + i) c := by
  rw [pay_eq, zero_sub, (neg_sum Finset.univ (fun p => ft (F := Ideal) (rowBlk X n p) (rowBlk Tg n p)) fun p _ => ft_ne_top _ (gx_fin hX _ _) _).2]
  exact sum_rows (n0 := 256) (n1 := 4096) fun r c => nt X Tg (512 + 256 * n + r) c

theorem tcAcc_sum (hX : ∀ i, Fin' (X i)) :
    ∀ n, tcAcc (F := Ideal) X Tg n
      = ∑ b ∈ Finset.range (n + 1), ∑ i ∈ Finset.range 256, ∑ c ∈ Finset.range 4096, nt X Tg (512 + 256 * b + i) c
  | 0 => by rw [Finset.sum_range_one]; exact pay_sum hX 0
  | n + 1 => by
    rw [Finset.sum_range_succ, ← tcAcc_sum hX n, ← pay_sum hX (n + 1)]
    rfl

/-- The two cores' parts add up to the sum over every row. -/
theorem parts_sum (hX : ∀ i, Fin' (X i)) :
    (∑ p : S32x16.Idx, outV (F := Ideal) X Tg p) + tcAcc (F := Ideal) X Tg 13
      = ∑ r ∈ Finset.range 4096, ∑ c ∈ Finset.range 4096, nt X Tg r c := by
  rw [outV_sum, tcAcc_sum hX 13]
  refine Eq.trans ?_ (Finset.sum_range_add (fun r => ∑ c ∈ Finset.range 4096, nt X Tg r c) 512 (14 * 256)).symm
  rw [sum_blocks 256 _ 14]
  simp only [Nat.add_assoc]

/-! ## The two results -/

/-- The reference's term of an element, its constants as words. -/
def refTerm (x : EReal) (t : BitVec 32) : EReal :=
  let p := Scalar.select (IntOp.cmpi .ne t 0#32) x (Ideal.ofBits .f32 0x3F800000#32 - x)
  Ideal.ofBits .f32 0xBF800000#32 * Ideal.pow (Ideal.ofBits .f32 0x3F800000#32 - p) (Ideal.ofBits .f32 0x40000000#32) * Ideal.log p

theorem ofBits_two : Ideal.ofBits .f32 0x40000000#32 = 2 := by
  rw [show (2 : EReal) = ((2 : ℝ) : EReal) by norm_cast]
  simp [Ideal.ofBits, Ideal.ieee, -EReal.coe_mul]; norm_num

theorem ofBits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul]; norm_num

theorem refTerm_eq (x : EReal) (hx : Fin' x) (t : BitVec 32) : refTerm x t = -ft (F := Ideal) x t := by
  rw [← ref_term x hx t]
  simp only [refTerm, ofBits_two, ofBits_neg_one, Ideal.ofBits_one_f32]

theorem gx_self {α : Type} (Y : S4096x4096.Idx → α) (p : S4096x4096.Idx) : gx Y (p 0).val (p 1).val = Y p := by
  unfold gx
  refine congrArg Y (funext fun a => ?_)
  match a with
  | 0 => exact Fin.ext (Nat.mod_eq_of_lt (p 0).isLt)
  | 1 => exact Fin.ext (Nat.mod_eq_of_lt (p 1).isLt)

/-- The reference's sum is the sum over every row. -/
theorem ref_sum (hX : ∀ i, Fin' (X i)) (h : S4096x4096.ShapeCasts Cert.ReferenceIdeal.S16777216) :
    ∑ j : Cert.ReferenceIdeal.S16777216.Idx, refTerm (shapeCast Cert.ReferenceIdeal.S16777216 X h j) (shapeCast Cert.ReferenceIdeal.S16777216 Tg h j)
      = ∑ r ∈ Finset.range 4096, ∑ c ∈ Finset.range 4096, nt X Tg r c := by
  refine (sum_shapeCast (fun i => refTerm (X i) (Tg i)) h).trans ?_
  rw [← sum_rows (n0 := 4096) (n1 := 4096) (nt X Tg)]
  refine Finset.sum_congr rfl fun p _ => ?_
  rw [refTerm_eq _ (hX p), nt, gx_self, gx_self]

/-- The program's result at its one index. -/
theorem result_apply (i : S_.Idx) : result (F := Ideal) X Tg i
    = Ideal.div ((0 + (0 + ∑ p : S32x16.Idx, outV (F := Ideal) X Tg p)) + tcAcc (F := Ideal) X Tg 13) (Ideal.ofBits .f32 0x4B800000#32) := by
  have e : Host.reduceAdd (F := Ideal) (outV X Tg) (constant S_ .f32 0x00000000#32) reducesTo_S32x16_S_d0_1 h_S_ i
      = 0 + ∑ p : S32x16.Idx, outV (F := Ideal) X Tg p := by
    rw [hostReduceAdd_apply, Ideal.hostReduceAdd_total _ (by decide)]
    exact congrArg (· + _) Ideal.ofBits_zero_f32
  rw [← e]
  conv_rhs => rw [← Ideal.ofBits_zero_f32]
  rfl

/-- The reference's quotient is the program's result. -/
theorem ref_value (hX : ∀ i, Fin' (X i)) (h : S4096x4096.ShapeCasts Cert.ReferenceIdeal.S16777216)
    (y : FVec Ideal Cert.ReferenceIdeal.S16777216 .f32)
    (hy : y = fun j => refTerm (shapeCast Cert.ReferenceIdeal.S16777216 X h j) (shapeCast Cert.ReferenceIdeal.S16777216 Tg h j))
    (hr : Cert.ReferenceIdeal.S16777216.ReducesTo [0] S_) (hu : 0 < S_.numel) :
    Host.divf (Host.reduceAdd (F := Ideal) y (constant S_ .f32 0x00000000#32) hr hu) (constant S_ .f32 0x4B800000#32) = result (F := Ideal) X Tg := by
  funext i
  rw [hostDivf_apply, hostReduceAdd_apply, Ideal.hostReduceAdd_total _ (by decide), hy, ref_sum hX h, ← parts_sum hX, result_apply]
  rw [show constant (F := Ideal) S_ .f32 0x00000000#32 (Shape.Idx.first hu) = 0 from Ideal.ofBits_zero_f32, zero_add, zero_add, zero_add]
  rfl

/-! ## The precondition -/

instance preFacts : Cert.Pre_finite.Facts where
  bcast_S_S4096x4096 := by decide
  reducesTo_S4096x4096_S_d0_1 := by decide
  h_S_ := by decide

theorem ofBits_inf : Ideal.ofBits .f32 0x7F800000#32 = ⊤ := by
  simp [Ideal.ofBits, Ideal.ieee]

/-- The precondition says that every input is finite. -/
theorem fin_of_pre (h : Cert.Pre_finite.fn (F := Ideal) X Tg = fun _ => 1#1) (i : S4096x4096.Idx) : Fin' (X i) := by
  haveI : Subsingleton Cert.Pre_finite.S_.Idx := ⟨fun a b => funext fun d => d.elim0⟩
  have hi := Host.reduce_andi_all _ _ _ _ ix0 (congrFun h ix0) i
  have hc : Ideal.cmp .olt (max (X i) (-X i)) (Ideal.ofBits .f32 0x7F800000#32) = 1#1 := hi
  rw [ofBits_inf] at hc
  have hlt : max (X i) (-X i) < ⊤ := by
    by_contra hn
    simp [Ideal.cmp, hn] at hc
  have h1 := lt_of_le_of_lt (le_max_left _ _) hlt
  have h2 := lt_of_le_of_lt (le_max_right _ _) hlt
  exact ⟨h1.ne, fun hb => by rw [hb] at h2; simp at h2⟩

end Cert.Proof.Focal

end
-- ==== Proof.lean ====
module

public import proofs.«01_k».proof.Defs
public import proofs.«01_k».proof.Proof.Gen.Kernel
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

section Bodies

variable {F : FTy → Type} [FloatOps F]

/-! The program as printed and its idealization have the same text: their body tables agree, body by body. -/

theorem defs₀_eq : Cert.Kernel.defs₀ (F := F) = Cert.KernelIdeal.defs₀ (F := F) := by
  funext p l a
  match p, l, a with
  | .scVector _ _, 0, _ => rfl
  | .scVector _ _, 1, _ => rfl
  | .tc, 0, _ => rfl
  | .tc, 1, (_, _) => rfl
  | .scScalar _, 0, _ => rfl
  | .scScalar _, 1, _ => rfl

theorem defs_eq : Cert.Kernel.defs (F := F) = Cert.KernelIdeal.defs (F := F) :=
  congrArg (fun D => Cert.KernelIdeal.sc.defs (Pipeline.defs Cert.KernelIdeal.pcfgs D)) defs₀_eq

set_option maxHeartbeats 1000000 in
theorem threads_eq : Cert.Kernel.threads (F := F) = Cert.KernelIdeal.threads (F := F) := rfl

end Bodies

/-- The program as printed: its run over the bit-exact floats. -/
theorem frame_kernel : Cert.quiescent_Kernel := by
  intro m ρ _
  have e : θ_run (Cert.Kernel.defs (F := Bits)) (Cert.Kernel.threads (F := Bits)) ⟨m, fun _ => 0, ρ⟩
      = θ_run (Cert.KernelIdeal.defs (F := Bits)) (Cert.KernelIdeal.threads (F := Bits)) ⟨m, fun _ => 0, ρ⟩ :=
    congrArg₂ (fun D t => θ_run D t ⟨m, fun _ => 0, ρ⟩) defs_eq threads_eq
  have h := Focal.run_main (F := Bits) m ρ
  rw [e]
  exact (θ_run (Cert.KernelIdeal.defs (F := Bits)) _ _).mono (fun _ h => ⟨fun c => ⟨(h.1 c).1, (h.1 c).2.1⟩, h.2⟩) h

/-- The program over the extended reals. -/
theorem frame_ideal : Cert.quiescent_KernelIdeal := fun m ρ _ =>
  (θ_run (Cert.KernelIdeal.defs (F := Ideal)) _ _).mono (fun _ h => ⟨fun c => ⟨(h.1 c).1, (h.1 c).2.1⟩, h.2⟩) (Focal.run_main (F := Ideal) m ρ)

/-- The reference: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite inputs the program's result is the reference's. -/
theorem algebraic : Cert.algebraic_KernelIdeal_ReferenceIdeal_pre_finite := by
  intro m ρ m' ρ' hpre hagree
  refine ⟨fun c => Focal.result (F := Ideal) (Focal.mx m c) (Focal.mt m c),
    (θ_run (Cert.KernelIdeal.defs (F := Ideal)) _ _).mono (fun _ h c => ⟨(h.1 c).2.2, (h.1 c).1, (h.1 c).2.1⟩) (Focal.run_main (F := Ideal) m ρ),
    (θ_run Cert.ReferenceIdeal.defs _ _).mono (fun r h c => ⟨(h c).1.trans ?_, (h c).2⟩) (Cert.ReferenceIdeal.Value.run (F := Ideal) m' ρ')⟩
  rw [(hagree c).1, (hagree c).2]
  exact Focal.ref_value (X := Focal.mx m c) (Tg := Focal.mt m c) (Focal.fin_of_pre (hpre c))
    Cert.ReferenceIdeal.Gen.shapeCasts_S4096x4096_S16777216 _ rfl _ _

theorem claim : Cert.Claim :=
  ⟨Cert.Kernel.Gen.facts, Cert.KernelIdeal.Gen.facts, Cert.ReferenceIdeal.Gen.facts, Focal.preFacts,
    frame_kernel, frame_ideal, fun m ρ _ => frame_ideal m ρ trivial, frame_reference, fun m ρ _ => frame_reference m ρ trivial,
    trivial, algebraic⟩

end Cert.Proof

end
